-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_unbiased_and_finite [hPre_unbiased_and_finite : Cert.Pre_unbiased_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_unbiased_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_unbiased_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_unbiased_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_unbiased_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_unbiased_and_finite [hPre_unbiased_and_finite : Cert.Pre_unbiased_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_unbiased_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_unbiased_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_unbiased_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_unbiased_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_unbiased_and_finite [hKernelIdeal : Cert.KernelIdeal.Facts] [hPre_unbiased_and_finite : Cert.Pre_unbiased_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_unbiased_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_unbiased_and_finite [hReferenceIdeal : Cert.ReferenceIdeal.Facts] [hPre_unbiased_and_finite : Cert.Pre_unbiased_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_unbiased_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_unbiased_and_finite [hKernelIdeal : Cert.KernelIdeal.Facts] [hReferenceIdeal : Cert.ReferenceIdeal.Facts] [hPre_unbiased_and_finite : Cert.Pre_unbiased_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_unbiased_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)) (v3 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_v11) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v275) = v0 c
          ∧ r.2.mem ((c.tc : Thread Cert.ReferenceIdeal.nD Cert.ReferenceIdeal.τ).loc Cert.ReferenceIdeal.main_v231) = v1 c
          ∧ r.2.mem ((c.tc : Thread Cert.ReferenceIdeal.nD Cert.ReferenceIdeal.τ).loc Cert.ReferenceIdeal.main_v291) = v2 c
          ∧ r.2.mem ((c.tc : Thread Cert.ReferenceIdeal.nD Cert.ReferenceIdeal.τ).loc Cert.ReferenceIdeal.main_v214) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_unbiased_and_finite : Cert.Pre_unbiased_and_finite.Facts),
    quiescent_Kernel (hKernel := hKernel)
    ∧ quiescent_KernelIdeal (hKernelIdeal := hKernelIdeal)
    ∧ quiescent_KernelIdeal_pre_unbiased_and_finite (hKernelIdeal := hKernelIdeal) (hPre_unbiased_and_finite := hPre_unbiased_and_finite)
    ∧ quiescent_ReferenceIdeal (hReferenceIdeal := hReferenceIdeal)
    ∧ quiescent_ReferenceIdeal_pre_unbiased_and_finite (hReferenceIdeal := hReferenceIdeal) (hPre_unbiased_and_finite := hPre_unbiased_and_finite)
    ∧ preserves_Kernel_KernelIdeal
    ∧ algebraic_KernelIdeal_ReferenceIdeal_pre_unbiased_and_finite (hKernelIdeal := hKernelIdeal) (hReferenceIdeal := hReferenceIdeal) (hPre_unbiased_and_finite := hPre_unbiased_and_finite)
-- ==== Pre_unbiased_and_finite.lean ====
abbrev S16x1024x512 : Shape := ⟨3, ![16, 1024, 512]⟩
abbrev S16x1024x1 : Shape := ⟨3, ![16, 1024, 1]⟩
abbrev S8x1024 : Shape := ⟨2, ![8, 1024]⟩
abbrev S512x2048 : Shape := ⟨2, ![512, 2048]⟩
abbrev S2048 : Shape := ⟨1, ![2048]⟩
abbrev S_ : Shape := ⟨0, ![]⟩

class Facts : Prop where
  bcast_S_S2048 : S_.BroadcastsInDim S2048 (![] : Fin 0 → Fin S2048.rank)
  bcast_S_S512x2048 : S_.BroadcastsInDim S512x2048 (![] : Fin 0 → Fin S512x2048.rank)
  bcast_S_S16x1024x1 : S_.BroadcastsInDim S16x1024x1 (![] : Fin 0 → Fin S16x1024x1.rank)

variable [Facts]

def fn {F : FTy → Type} [FloatOps F] (main_arg0 : FVec F S16x1024x512 .f32) (main_arg1 : FVec F S16x1024x1 .f32) (main_arg2 : FVec F S8x1024 .f32) (main_arg3 : FVec F S512x2048 .f32) (main_arg4 : FVec F S2048 .f32) (main_arg5 : FVec F S2048 .f32) : IVec S2048 1 × IVec S512x2048 1 × IVec S2048 1 × IVec S16x1024x1 1 :=
  let main_cst : FVec F S_ .f32 := constant S_ .f32 0x00000000#32
  let main_v0 : FVec F S2048 .f32 := broadcastInDim S2048 ![] bcast_S_S2048 main_cst
  let main_v1 : IVec S2048 1 := cmpf .oeq main_arg4 main_v0
  let main_v2 : FVec F S512x2048 .f32 := Host.absf main_arg3
  let main_cst_0 : FVec F S_ .f32 := constant S_ .f32 0x7F800000#32
  let main_v3 : FVec F S512x2048 .f32 := broadcastInDim S512x2048 ![] bcast_S_S512x2048 main_cst_0
  let main_v4 : IVec S512x2048 1 := cmpf .olt main_v2 main_v3
  let main_v5 : FVec F S2048 .f32 := Host.absf main_arg5
  let main_cst_1 : FVec F S_ .f32 := constant S_ .f32 0x7F800000#32
  let main_v6 : FVec F S2048 .f32 := broadcastInDim S2048 ![] bcast_S_S2048 main_cst_1
  let main_v7 : IVec S2048 1 := cmpf .olt main_v5 main_v6
  let main_cst_2 : FVec F S_ .f32 := constant S_ .f32 0x3F666666#32
  let main_v8 : FVec F S16x1024x1 .f32 := broadcastInDim S16x1024x1 ![] bcast_S_S16x1024x1 main_cst_2
  let main_v9 : FVec F S16x1024x1 .f32 := mulf main_v8 main_arg1
  let main_cst_3 : FVec F S_ .f32 := constant S_ .f32 0x3DCCCCCD#32
  let main_v10 : FVec F S16x1024x1 .f32 := broadcastInDim S16x1024x1 ![] bcast_S_S16x1024x1 main_cst_3
  let main_v11 : FVec F S16x1024x1 .f32 := addf main_v10 main_v9
  let main_cst_4 : FVec F S_ .f32 := constant S_ .f32 0x00000000#32
  let main_v12 : FVec F S16x1024x1 .f32 := broadcastInDim S16x1024x1 ![] bcast_S_S16x1024x1 main_cst_4
  let main_v13 : IVec S16x1024x1 1 := cmpf .une main_v11 main_v12
  (main_v1, main_v4, main_v7, main_v13)
-- ==== Kernel.lean ====
abbrev S16x1024x512 : Shape := ⟨3, ![16, 1024, 512]⟩
abbrev S16x1024x1 : Shape := ⟨3, ![16, 1024, 1]⟩
abbrev S8x1024 : Shape := ⟨2, ![8, 1024]⟩
abbrev S512x2048 : Shape := ⟨2, ![512, 2048]⟩
abbrev S2048 : Shape := ⟨1, ![2048]⟩
abbrev S8x2x1024x512 : Shape := ⟨4, ![8, 2, 1024, 512]⟩
abbrev S8x2x1024 : Shape := ⟨3, ![8, 2, 1024]⟩
abbrev S8x1x1024 : Shape := ⟨3, ![8, 1, 1024]⟩
abbrev S2048x512 : Shape := ⟨2, ![2048, 512]⟩
abbrev S1x2048 : Shape := ⟨2, ![1, 2048]⟩
abbrev S2048x1 : Shape := ⟨2, ![2048, 1]⟩
abbrev S1x2x512x512 : Shape := ⟨4, ![1, 2, 512, 512]⟩
abbrev S1x2x512 : Shape := ⟨3, ![1, 2, 512]⟩
abbrev S1x1x512 : Shape := ⟨3, ![1, 1, 512]⟩
abbrev S1x1x512x512 : Shape := ⟨4, ![1, 1, 512, 512]⟩
abbrev S512x512 : Shape := ⟨2, ![512, 512]⟩
abbrev S512x1 : Shape := ⟨2, ![512, 1]⟩
abbrev S512 : Shape := ⟨1, ![512]⟩
abbrev S1x512 : Shape := ⟨2, ![1, 512]⟩
abbrev S2x512 : Shape := ⟨2, ![2, 512]⟩
abbrev S16x1024 : Shape := ⟨2, ![16, 1024]⟩
abbrev S_ : Shape := ⟨0, ![]⟩

abbrev nBuf : Space → Nat
  | .hbm => 23
  | .vmem => 18
  | .smem => 0
  | _ => 0

abbrev bufTy : (tb : Table) → Fin (tcTables nBuf tb) → BufTy
  | .hbm, ⟨0, _⟩ => ⟨S16x1024x512, .f32⟩
  | .hbm, ⟨1, _⟩ => ⟨S16x1024x1, .f32⟩
  | .hbm, ⟨2, _⟩ => ⟨S8x1024, .f32⟩
  | .hbm, ⟨3, _⟩ => ⟨S512x2048, .f32⟩
  | .hbm, ⟨4, _⟩ => ⟨S2048, .f32⟩
  | .hbm, ⟨5, _⟩ => ⟨S2048, .f32⟩
  | .hbm, ⟨6, _⟩ => ⟨S8x2x1024x512, .f32⟩
  | .hbm, ⟨7, _⟩ => ⟨S8x2x1024, .f32⟩
  | .hbm, ⟨8, _⟩ => ⟨S8x1x1024, .f32⟩
  | .hbm, ⟨9, _⟩ => ⟨S2048x512, .f32⟩
  | .hbm, ⟨10, _⟩ => ⟨S1x2048, .f32⟩
  | .hbm, ⟨11, _⟩ => ⟨S2048x1, .f32⟩
  | .hbm, ⟨12, _⟩ => ⟨S8x2x1024x512, .f32⟩
  | .hbm, ⟨13, _⟩ => ⟨S8x2x1024, .f32⟩
  | .hbm, ⟨14, _⟩ => ⟨S8x2x1024x512, .f32⟩
  | .hbm, ⟨15, _⟩ => ⟨S8x1x1024, .f32⟩
  | .hbm, ⟨16, _⟩ => ⟨S16x1024x512, .f32⟩
  | .hbm, ⟨17, _⟩ => ⟨S16x1024, .f32⟩
  | .hbm, ⟨18, _⟩ => ⟨S16x1024x512, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .local _ .vmem, ⟨0, _⟩ => ⟨S1x2x512x512, .f32⟩
  | .local _ .vmem, ⟨1, _⟩ => ⟨S1x2x512x512, .f32⟩
  | .local _ .vmem, ⟨2, _⟩ => ⟨S1x2x512, .f32⟩
  | .local _ .vmem, ⟨3, _⟩ => ⟨S1x2x512, .f32⟩
  | .local _ .vmem, ⟨4, _⟩ => ⟨S1x1x512, .f32⟩
  | .local _ .vmem, ⟨5, _⟩ => ⟨S1x1x512, .f32⟩
  | .local _ .vmem, ⟨6, _⟩ => ⟨S512x2048, .f32⟩
  | .local _ .vmem, ⟨7, _⟩ => ⟨S2048x512, .f32⟩
  | .local _ .vmem, ⟨8, _⟩ => ⟨S1x2048, .f32⟩
  | .local _ .vmem, ⟨9, _⟩ => ⟨S2048x1, .f32⟩
  | .local _ .vmem, ⟨10, _⟩ => ⟨S1x2x512x512, .f32⟩
  | .local _ .vmem, ⟨11, _⟩ => ⟨S1x2x512x512, .f32⟩
  | .local _ .vmem, ⟨12, _⟩ => ⟨S1x2x512, .f32⟩
  | .local _ .vmem, ⟨13, _⟩ => ⟨S1x2x512, .f32⟩
  | .local _ .vmem, ⟨14, _⟩ => ⟨S1x2x512x512, .f32⟩
  | .local _ .vmem, ⟨15, _⟩ => ⟨S1x2x512x512, .f32⟩
  | .local _ .vmem, ⟨16, _⟩ => ⟨S1x1x512, .f32⟩
  | .local _ .vmem, ⟨17, _⟩ => ⟨S1x1x512, .f32⟩
  | _, _ => ⟨S16x1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![8, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x2x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S16x1024x512 : Shape := ⟨3, ![16, 1024, 512]⟩
abbrev S16x1024x1 : Shape := ⟨3, ![16, 1024, 1]⟩
abbrev S8x1024 : Shape := ⟨2, ![8, 1024]⟩
abbrev S512x2048 : Shape := ⟨2, ![512, 2048]⟩
abbrev S2048 : Shape := ⟨1, ![2048]⟩
abbrev S16384x512 : Shape := ⟨2, ![16384, 512]⟩
abbrev S16384x1 : Shape := ⟨2, ![16384, 1]⟩
abbrev S16384 : Shape := ⟨1, ![16384]⟩
abbrev S_ : Shape := ⟨0, ![]⟩
abbrev S16384x2048 : Shape := ⟨2, ![16384, 2048]⟩
abbrev S1x2048 : Shape := ⟨2, ![1, 2048]⟩
abbrev S16x1024 : Shape := ⟨2, ![16, 1024]⟩
abbrev S8 : Shape := ⟨1, ![8]⟩
abbrev S8x1 : Shape := ⟨2, ![8, 1]⟩
abbrev S8x1024x512 : Shape := ⟨3, ![8, 1024, 512]⟩
abbrev S8x1024x1 : Shape := ⟨3, ![8, 1024, 1]⟩
abbrev S8192x1 : Shape := ⟨2, ![8192, 1]⟩
abbrev S8192x512 : Shape := ⟨2, ![8192, 512]⟩
abbrev S8192 : Shape := ⟨1, ![8192]⟩
abbrev S8192x2048 : Shape := ⟨2, ![8192, 2048]⟩

abbrev nBuf : Space → Nat
  | .hbm => 379
  | .vmem => 0
  | .smem => 0
  | _ => 0

abbrev hbmTy0_0 (i : Nat) : BufTy := match i % 128 with
  | 0 => ⟨S16x1024x512, .f32⟩
  | 1 => ⟨S16x1024x1, .f32⟩
  | 2 => ⟨S8x1024, .f32⟩
  | 3 => ⟨S512x2048, .f32⟩
  | 4 => ⟨S2048, .f32⟩
  | 5 => ⟨S2048, .f32⟩
  | 6 => ⟨S16384x512, .f32⟩
  | 7 => ⟨S16384x1, .f32⟩
  | 8 => ⟨S16384, .f32⟩
  | 9 => ⟨S_, .f32⟩
  | 10 => ⟨S16384, .f32⟩
  | 11 => ⟨S16384, .f32⟩
  | 12 => ⟨S_, .f32⟩
  | 13 => ⟨S16384, .f32⟩
  | 14 => ⟨S16384, .f32⟩
  | 15 => ⟨S16384x2048, .f32⟩
  | 16 => ⟨S1x2048, .f32⟩
  | 17 => ⟨S16384x2048, .f32⟩
  | 18 => ⟨S16384x2048, .f32⟩
  | 19 => ⟨S_, .f32⟩
  | 20 => ⟨S16384x2048, .f32⟩
  | 21 => ⟨S16384x2048, .f32⟩
  | 22 => ⟨S_, .f32⟩
  | 23 => ⟨S16384x2048, .f32⟩
  | 24 => ⟨S16384x2048, .i1⟩
  | 25 => ⟨S_, .f32⟩
  | 26 => ⟨S16384x2048, .f32⟩
  | 27 => ⟨S1x2048, .f32⟩
  | 28 => ⟨S16384x2048, .f32⟩
  | 29 => ⟨S16384x2048, .f32⟩
  | 30 => ⟨S_, .f32⟩
  | 31 => ⟨S16384, .f32⟩
  | 32 => ⟨S16384, .f32⟩
  | 33 => ⟨S16384, .f32⟩
  | 34 => ⟨S16384x512, .f32⟩
  | 35 => ⟨S_, .f32⟩
  | 36 => ⟨S16384, .f32⟩
  | 37 => ⟨S_, .f32⟩
  | 38 => ⟨S16384, .f32⟩
  | 39 => ⟨S16384, .f32⟩
  | 40 => ⟨S16384, .f32⟩
  | 41 => ⟨S16384, .f32⟩
  | 42 => ⟨S16384, .f32⟩
  | 43 => ⟨S_, .f32⟩
  | 44 => ⟨S16384, .f32⟩
  | 45 => ⟨S16384, .f32⟩
  | 46 => ⟨S16384, .f32⟩
  | 47 => ⟨S_, .f32⟩
  | 48 => ⟨S16384, .f32⟩
  | 49 => ⟨S16384, .f32⟩
  | 50 => ⟨S16384x512, .f32⟩
  | 51 => ⟨S16384x512, .f32⟩
  | 52 => ⟨S16384x512, .f32⟩
  | 53 => ⟨S16384x512, .f32⟩
  | 54 => ⟨S16384, .f32⟩
  | 55 => ⟨S16384, .f32⟩
  | 56 => ⟨S16384x2048, .f32⟩
  | 57 => ⟨S16384x2048, .f32⟩
  | 58 => ⟨S16384x2048, .f32⟩
  | 59 => ⟨S_, .f32⟩
  | 60 => ⟨S16384x2048, .f32⟩
  | 61 => ⟨S16384x2048, .f32⟩
  | 62 => ⟨S16384x512, .f32⟩
  | 63 => ⟨S16384x512, .f32⟩
  | 64 => ⟨S16x1024, .f32⟩
  | 65 => ⟨S16x1024x512, .f32⟩
  | 66 => ⟨S8, .i32⟩
  | 67 => ⟨S_, .i32⟩
  | 68 => ⟨S8, .i32⟩
  | 69 => ⟨S8, .i32⟩
  | 70 => ⟨S_, .i32⟩
  | 71 => ⟨S8, .i32⟩
  | 72 => ⟨S8, .i32⟩
  | 73 => ⟨S_, .i32⟩
  | 74 => ⟨S8, .i32⟩
  | 75 => ⟨S8, .i32⟩
  | 76 => ⟨S_, .i32⟩
  | 77 => ⟨S8, .i32⟩
  | 78 => ⟨S8, .i1⟩
  | 79 => ⟨S_, .i32⟩
  | 80 => ⟨S8, .i32⟩
  | 81 => ⟨S8, .i32⟩
  | 82 => ⟨S8, .i32⟩
  | 83 => ⟨S8x1, .i32⟩
  | 84 => ⟨S8x1024, .f32⟩
  | 85 => ⟨S_, .i32⟩
  | 86 => ⟨S8, .i32⟩
  | 87 => ⟨S8, .i1⟩
  | 88 => ⟨S_, .i32⟩
  | 89 => ⟨S8, .i32⟩
  | 90 => ⟨S8, .i32⟩
  | 91 => ⟨S8, .i32⟩
  | 92 => ⟨S8x1, .i32⟩
  | 93 => ⟨S8x1024, .f32⟩
  | 94 => ⟨S_, .i32⟩
  | 95 => ⟨S8, .i32⟩
  | 96 => ⟨S8, .i1⟩
  | 97 => ⟨S_, .i32⟩
  | 98 => ⟨S8, .i32⟩
  | 99 => ⟨S8, .i32⟩
  | 100 => ⟨S8, .i32⟩
  | 101 => ⟨S8x1, .i32⟩
  | 102 => ⟨S8x1024x512, .f32⟩
  | 103 => ⟨S_, .i32⟩
  | 104 => ⟨S8, .i32⟩
  | 105 => ⟨S8, .i1⟩
  | 106 => ⟨S_, .i32⟩
  | 107 => ⟨S8, .i32⟩
  | 108 => ⟨S8, .i32⟩
  | 109 => ⟨S8, .i32⟩
  | 110 => ⟨S8x1, .i32⟩
  | 111 => ⟨S8x1024x512, .f32⟩
  | 112 => ⟨S_, .i32⟩
  | 113 => ⟨S8, .i32⟩
  | 114 => ⟨S8, .i1⟩
  | 115 => ⟨S_, .i32⟩
  | 116 => ⟨S8, .i32⟩
  | 117 => ⟨S8, .i32⟩
  | 118 => ⟨S8, .i32⟩
  | 119 => ⟨S8x1, .i32⟩
  | 120 => ⟨S8x1024x1, .f32⟩
  | 121 => ⟨S8192x1, .f32⟩
  | 122 => ⟨S_, .i32⟩
  | 123 => ⟨S8, .i32⟩
  | 124 => ⟨S8, .i1⟩
  | 125 => ⟨S_, .i32⟩
  | 126 => ⟨S8, .i32⟩
  | 127 => ⟨S8, .i32⟩
  | _ => ⟨S16x1024x512, .f32⟩

abbrev hbmTy0_1 (i : Nat) : BufTy := match i % 128 with
  | 0 => ⟨S8, .i32⟩
  | 1 => ⟨S8x1, .i32⟩
  | 2 => ⟨S8x1024x1, .f32⟩
  | 3 => ⟨S8192x1, .f32⟩
  | 4 => ⟨S_, .i32⟩
  | 5 => ⟨S8, .i32⟩
  | 6 => ⟨S8, .i1⟩
  | 7 => ⟨S_, .i32⟩
  | 8 => ⟨S8, .i32⟩
  | 9 => ⟨S8, .i32⟩
  | 10 => ⟨S8, .i32⟩
  | 11 => ⟨S8x1, .i32⟩
  | 12 => ⟨S8x1024x512, .f32⟩
  | 13 => ⟨S8192x512, .f32⟩
  | 14 => ⟨S_, .i32⟩
  | 15 => ⟨S8, .i32⟩
  | 16 => ⟨S8, .i1⟩
  | 17 => ⟨S_, .i32⟩
  | 18 => ⟨S8, .i32⟩
  | 19 => ⟨S8, .i32⟩
  | 20 => ⟨S8, .i32⟩
  | 21 => ⟨S8x1, .i32⟩
  | 22 => ⟨S8x1024x512, .f32⟩
  | 23 => ⟨S8192x512, .f32⟩
  | 24 => ⟨S8192, .f32⟩
  | 25 => ⟨S_, .f32⟩
  | 26 => ⟨S8192, .f32⟩
  | 27 => ⟨S8192, .f32⟩
  | 28 => ⟨S_, .f32⟩
  | 29 => ⟨S8192, .f32⟩
  | 30 => ⟨S8192, .f32⟩
  | 31 => ⟨S8192x2048, .f32⟩
  | 32 => ⟨S1x2048, .f32⟩
  | 33 => ⟨S8192x2048, .f32⟩
  | 34 => ⟨S8192x2048, .f32⟩
  | 35 => ⟨S_, .f32⟩
  | 36 => ⟨S8192x2048, .f32⟩
  | 37 => ⟨S8192x2048, .f32⟩
  | 38 => ⟨S_, .f32⟩
  | 39 => ⟨S8192x2048, .f32⟩
  | 40 => ⟨S8192x2048, .i1⟩
  | 41 => ⟨S_, .f32⟩
  | 42 => ⟨S8192x2048, .f32⟩
  | 43 => ⟨S1x2048, .f32⟩
  | 44 => ⟨S8192x2048, .f32⟩
  | 45 => ⟨S8192x2048, .f32⟩
  | 46 => ⟨S_, .f32⟩
  | 47 => ⟨S8192, .f32⟩
  | 48 => ⟨S8192, .f32⟩
  | 49 => ⟨S8192, .f32⟩
  | 50 => ⟨S8192x512, .f32⟩
  | 51 => ⟨S_, .f32⟩
  | 52 => ⟨S8192, .f32⟩
  | 53 => ⟨S_, .f32⟩
  | 54 => ⟨S8192, .f32⟩
  | 55 => ⟨S8192, .f32⟩
  | 56 => ⟨S8192, .f32⟩
  | 57 => ⟨S8192, .f32⟩
  | 58 => ⟨S8192, .f32⟩
  | 59 => ⟨S_, .f32⟩
  | 60 => ⟨S8192, .f32⟩
  | 61 => ⟨S8192, .f32⟩
  | 62 => ⟨S8192, .f32⟩
  | 63 => ⟨S_, .f32⟩
  | 64 => ⟨S8192, .f32⟩
  | 65 => ⟨S8192, .f32⟩
  | 66 => ⟨S8192x512, .f32⟩
  | 67 => ⟨S8192x512, .f32⟩
  | 68 => ⟨S8192x512, .f32⟩
  | 69 => ⟨S8192x512, .f32⟩
  | 70 => ⟨S8192, .f32⟩
  | 71 => ⟨S8192, .f32⟩
  | 72 => ⟨S8192x2048, .f32⟩
  | 73 => ⟨S8192x2048, .f32⟩
  | 74 => ⟨S8192x2048, .f32⟩
  | 75 => ⟨S_, .f32⟩
  | 76 => ⟨S8192x2048, .f32⟩
  | 77 => ⟨S8192x2048, .f32⟩
  | 78 => ⟨S8192x512, .f32⟩
  | 79 => ⟨S8192x512, .f32⟩
  | 80 => ⟨S8192, .f32⟩
  | 81 => ⟨S_, .f32⟩
  | 82 => ⟨S8192, .f32⟩
  | 83 => ⟨S8192, .f32⟩
  | 84 => ⟨S_, .f32⟩
  | 85 => ⟨S8192, .f32⟩
  | 86 => ⟨S8192, .f32⟩
  | 87 => ⟨S8192x2048, .f32⟩
  | 88 => ⟨S1x2048, .f32⟩
  | 89 => ⟨S8192x2048, .f32⟩
  | 90 => ⟨S8192x2048, .f32⟩
  | 91 => ⟨S_, .f32⟩
  | 92 => ⟨S8192x2048, .f32⟩
  | 93 => ⟨S8192x2048, .f32⟩
  | 94 => ⟨S_, .f32⟩
  | 95 => ⟨S8192x2048, .f32⟩
  | 96 => ⟨S8192x2048, .i1⟩
  | 97 => ⟨S_, .f32⟩
  | 98 => ⟨S8192x2048, .f32⟩
  | 99 => ⟨S1x2048, .f32⟩
  | 100 => ⟨S8192x2048, .f32⟩
  | 101 => ⟨S8192x2048, .f32⟩
  | 102 => ⟨S_, .f32⟩
  | 103 => ⟨S8192, .f32⟩
  | 104 => ⟨S8192, .f32⟩
  | 105 => ⟨S8192, .f32⟩
  | 106 => ⟨S8192x512, .f32⟩
  | 107 => ⟨S_, .f32⟩
  | 108 => ⟨S8192, .f32⟩
  | 109 => ⟨S_, .f32⟩
  | 110 => ⟨S8192, .f32⟩
  | 111 => ⟨S8192, .f32⟩
  | 112 => ⟨S8192, .f32⟩
  | 113 => ⟨S8192, .f32⟩
  | 114 => ⟨S8192, .f32⟩
  | 115 => ⟨S_, .f32⟩
  | 116 => ⟨S8192, .f32⟩
  | 117 => ⟨S8192, .f32⟩
  | 118 => ⟨S8192, .f32⟩
  | 119 => ⟨S_, .f32⟩
  | 120 => ⟨S8192, .f32⟩
  | 121 => ⟨S8192, .f32⟩
  | 122 => ⟨S8192x512, .f32⟩
  | 123 => ⟨S8192x512, .f32⟩
  | 124 => ⟨S8192x512, .f32⟩
  | 125 => ⟨S8192x512, .f32⟩
  | 126 => ⟨S8192, .f32⟩
  | 127 => ⟨S8192, .f32⟩
  | _ => ⟨S16x1024x512, .f32⟩

abbrev hbmTy0_2 (i : Nat) : BufTy := match i % 128 with
  | 0 => ⟨S8192x2048, .f32⟩
  | 1 => ⟨S8192x2048, .f32⟩
  | 2 => ⟨S8192x2048, .f32⟩
  | 3 => ⟨S_, .f32⟩
  | 4 => ⟨S8192x2048, .f32⟩
  | 5 => ⟨S8192x2048, .f32⟩
  | 6 => ⟨S8192x512, .f32⟩
  | 7 => ⟨S8192x512, .f32⟩
  | 8 => ⟨S8x1024, .f32⟩
  | 9 => ⟨S8x1024x512, .f32⟩
  | 10 => ⟨S8x1024, .f32⟩
  | 11 => ⟨S8x1024x512, .f32⟩
  | 12 => ⟨S8x1024, .f32⟩
  | 13 => ⟨S8x1024, .f32⟩
  | 14 => ⟨S8x1024, .f32⟩
  | 15 => ⟨S8x1024, .f32⟩
  | 16 => ⟨S8x1024, .i1⟩
  | 17 => ⟨S8x1024, .f32⟩
  | 18 => ⟨S_, .f32⟩
  | 19 => ⟨S_, .f32⟩
  | 20 => ⟨S_, .f32⟩
  | 21 => ⟨S_, .f32⟩
  | 22 => ⟨S8x1024x1, .i1⟩
  | 23 => ⟨S8x1024, .f32⟩
  | 24 => ⟨S_, .i32⟩
  | 25 => ⟨S8, .i32⟩
  | 26 => ⟨S8, .i1⟩
  | 27 => ⟨S_, .i32⟩
  | 28 => ⟨S8, .i32⟩
  | 29 => ⟨S8, .i32⟩
  | 30 => ⟨S8, .i32⟩
  | 31 => ⟨S8x1, .i32⟩
  | 32 => ⟨S16x1024, .f32⟩
  | 33 => ⟨S8x1024, .f32⟩
  | 34 => ⟨S_, .i32⟩
  | 35 => ⟨S8, .i32⟩
  | 36 => ⟨S8, .i1⟩
  | 37 => ⟨S_, .i32⟩
  | 38 => ⟨S8, .i32⟩
  | 39 => ⟨S8, .i32⟩
  | 40 => ⟨S8, .i32⟩
  | 41 => ⟨S8x1, .i32⟩
  | 42 => ⟨S16x1024, .f32⟩
  | 43 => ⟨S_, .i32⟩
  | 44 => ⟨S8, .i32⟩
  | 45 => ⟨S8, .i1⟩
  | 46 => ⟨S_, .i32⟩
  | 47 => ⟨S8, .i32⟩
  | 48 => ⟨S8, .i32⟩
  | 49 => ⟨S8, .i32⟩
  | 50 => ⟨S8x1, .i32⟩
  | 51 => ⟨S8x1024x512, .f32⟩
  | 52 => ⟨S_, .i32⟩
  | 53 => ⟨S8, .i32⟩
  | 54 => ⟨S8, .i1⟩
  | 55 => ⟨S_, .i32⟩
  | 56 => ⟨S8, .i32⟩
  | 57 => ⟨S8, .i32⟩
  | 58 => ⟨S8, .i32⟩
  | 59 => ⟨S8x1, .i32⟩
  | 60 => ⟨S8x1024x512, .f32⟩
  | 61 => ⟨S8x1024x512, .i1⟩
  | 62 => ⟨S8x1024x512, .f32⟩
  | 63 => ⟨S_, .i32⟩
  | 64 => ⟨S8, .i32⟩
  | 65 => ⟨S8, .i1⟩
  | 66 => ⟨S_, .i32⟩
  | 67 => ⟨S8, .i32⟩
  | 68 => ⟨S8, .i32⟩
  | 69 => ⟨S8, .i32⟩
  | 70 => ⟨S8x1, .i32⟩
  | 71 => ⟨S16x1024x512, .f32⟩
  | 72 => ⟨S_, .i32⟩
  | 73 => ⟨S8, .i32⟩
  | 74 => ⟨S8, .i1⟩
  | 75 => ⟨S_, .i32⟩
  | 76 => ⟨S8, .i32⟩
  | 77 => ⟨S8, .i32⟩
  | 78 => ⟨S8, .i32⟩
  | 79 => ⟨S8x1, .i32⟩
  | 80 => ⟨S8x1024x512, .f32⟩
  | 81 => ⟨S_, .i32⟩
  | 82 => ⟨S8, .i32⟩
  | 83 => ⟨S8, .i1⟩
  | 84 => ⟨S_, .i32⟩
  | 85 => ⟨S8, .i32⟩
  | 86 => ⟨S8, .i32⟩
  | 87 => ⟨S8, .i32⟩
  | 88 => ⟨S8x1, .i32⟩
  | 89 => ⟨S8x1024x512, .f32⟩
  | 90 => ⟨S8x1024x512, .i1⟩
  | 91 => ⟨S8x1024x512, .f32⟩
  | 92 => ⟨S_, .i32⟩
  | 93 => ⟨S8, .i32⟩
  | 94 => ⟨S8, .i1⟩
  | 95 => ⟨S_, .i32⟩
  | 96 => ⟨S8, .i32⟩
  | 97 => ⟨S8, .i32⟩
  | 98 => ⟨S8, .i32⟩
  | 99 => ⟨S8x1, .i32⟩
  | 100 => ⟨S16x1024x512, .f32⟩
  | 101 => ⟨S8x1024x512, .i1⟩
  | 102 => ⟨S8x1024x512, .f32⟩
  | 103 => ⟨S_, .i32⟩
  | 104 => ⟨S8, .i32⟩
  | 105 => ⟨S8, .i1⟩
  | 106 => ⟨S_, .i32⟩
  | 107 => ⟨S8, .i32⟩
  | 108 => ⟨S8, .i32⟩
  | 109 => ⟨S8, .i32⟩
  | 110 => ⟨S8x1, .i32⟩
  | 111 => ⟨S16x1024x512, .f32⟩
  | 112 => ⟨S8x1024x512, .i1⟩
  | 113 => ⟨S8x1024x512, .f32⟩
  | 114 => ⟨S_, .i32⟩
  | 115 => ⟨S8, .i32⟩
  | 116 => ⟨S8, .i1⟩
  | 117 => ⟨S_, .i32⟩
  | 118 => ⟨S8, .i32⟩
  | 119 => ⟨S8, .i32⟩
  | 120 => ⟨S8, .i32⟩
  | 121 => ⟨S8x1, .i32⟩
  | 122 => ⟨S16x1024x512, .f32⟩
  | _ => ⟨S16x1024x512, .f32⟩

abbrev hbmTy (i : Nat) : BufTy := match i / 128 with
  | 0 => hbmTy0_0 i
  | 1 => hbmTy0_1 i
  | 2 => hbmTy0_2 i
  | _ => ⟨S16x1024x512, .f32⟩

abbrev bufTy : (tb : Table) → Fin (tcTables nBuf tb) → BufTy
  | .hbm, ⟨i, _⟩ => hbmTy i
  | _, _ => ⟨S16x1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_cst : Ref sig .tc := ⟨.hbm, 19, rfl⟩
abbrev main_call0_v0 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_c : Ref sig .tc := ⟨.hbm, 67, rfl⟩
abbrev main_v49 : Ref sig .tc := ⟨.hbm, 68, rfl⟩
abbrev main_v50 : Ref sig .tc := ⟨.hbm, 69, rfl⟩
abbrev main_c_9 : Ref sig .tc := ⟨.hbm, 70, rfl⟩
abbrev main_v51 : Ref sig .tc := ⟨.hbm, 71, rfl⟩
abbrev main_v52 : Ref sig .tc := ⟨.hbm, 72, rfl⟩
abbrev main_c_10 : Ref sig .tc := ⟨.hbm, 73, rfl⟩
abbrev main_v53 : Ref sig .tc := ⟨.hbm, 74, rfl⟩
abbrev main_v54 : Ref sig .tc := ⟨.hbm, 75, rfl⟩
abbrev main_c_11 : Ref sig .tc := ⟨.hbm, 76, rfl⟩
abbrev main_v55 : Ref sig .tc := ⟨.hbm, 77, rfl⟩
abbrev main_v56 : Ref sig .tc := ⟨.hbm, 78, rfl⟩
abbrev main_c_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_13 : Ref sig .tc := ⟨.hbm, 85, rfl⟩
abbrev main_v62 : Ref sig .tc := ⟨.hbm, 86, rfl⟩
abbrev main_v63 : Ref sig .tc := ⟨.hbm, 87, rfl⟩
abbrev main_c_14 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_15 : Ref sig .tc := ⟨.hbm, 94, rfl⟩
abbrev main_v69 : Ref sig .tc := ⟨.hbm, 95, rfl⟩
abbrev main_v70 : Ref sig .tc := ⟨.hbm, 96, rfl⟩
abbrev main_c_16 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_c_17 : Ref sig .tc := ⟨.hbm, 103, rfl⟩
abbrev main_v76 : Ref sig .tc := ⟨.hbm, 104, rfl⟩
abbrev main_v77 : Ref sig .tc := ⟨.hbm, 105, rfl⟩
abbrev main_c_18 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_19 : Ref sig .tc := ⟨.hbm, 112, rfl⟩
abbrev main_v83 : Ref sig .tc := ⟨.hbm, 113, rfl⟩
abbrev main_v84 : Ref sig .tc := ⟨.hbm, 114, rfl⟩
abbrev main_c_20 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_c_21 : Ref sig .tc := ⟨.hbm, 122, rfl⟩
abbrev main_v91 : Ref sig .tc := ⟨.hbm, 123, rfl⟩
abbrev main_v92 : Ref sig .tc := ⟨.hbm, 124, rfl⟩
abbrev main_c_22 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_c_23 : Ref sig .tc := ⟨.hbm, 132, rfl⟩
abbrev main_v99 : Ref sig .tc := ⟨.hbm, 133, rfl⟩
abbrev main_v100 : Ref sig .tc := ⟨.hbm, 134, rfl⟩
abbrev main_c_24 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_c_25 : Ref sig .tc := ⟨.hbm, 142, rfl⟩
abbrev main_v107 : Ref sig .tc := ⟨.hbm, 143, rfl⟩
abbrev main_v108 : Ref sig .tc := ⟨.hbm, 144, rfl⟩
abbrev main_c_26 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_cst_27 : Ref sig .tc := ⟨.hbm, 153, rfl⟩
abbrev main_v116 : Ref sig .tc := ⟨.hbm, 154, rfl⟩
abbrev main_v117 : Ref sig .tc := ⟨.hbm, 155, rfl⟩
abbrev main_cst_28 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_call1_cst : Ref sig .tc := ⟨.hbm, 163, rfl⟩
abbrev main_call1_v0 : Ref sig .tc := ⟨.hbm, 164, rfl⟩
abbrev main_v124 : Ref sig .tc := ⟨.hbm, 165, rfl⟩
abbrev main_cst_29 : Ref sig .tc := ⟨.hbm, 166, rfl⟩
abbrev main_v125 : Ref sig .tc := ⟨.hbm, 167, rfl⟩
abbrev main_v126 : Ref sig .tc := ⟨.hbm, 168, rfl⟩
abbrev main_cst_30 : Ref sig .tc := ⟨.hbm, 169, rfl⟩
abbrev main_v127 : Ref sig .tc := ⟨.hbm, 170, rfl⟩
abbrev main_v128 : Ref sig .tc := ⟨.hbm, 171, rfl⟩
abbrev main_v129 : Ref sig .tc := ⟨.hbm, 172, rfl⟩
abbrev main_v130 : Ref sig .tc := ⟨.hbm, 173, rfl⟩
abbrev main_cst_31 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_cst_32 : Ref sig .tc := ⟨.hbm, 179, rfl⟩
abbrev main_v135 : Ref sig .tc := ⟨.hbm, 180, rfl⟩
abbrev main_cst_33 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_cst_34 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_35 : Ref sig .tc := ⟨.hbm, 191, rfl⟩
abbrev main_v144 : Ref sig .tc := ⟨.hbm, 192, rfl⟩
abbrev main_v145 : Ref sig .tc := ⟨.hbm, 193, rfl⟩
abbrev main_v146 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_v152 : Ref sig .tc := ⟨.hbm, 200, rfl⟩
abbrev main_v153 : Ref sig .tc := ⟨.hbm, 201, rfl⟩
abbrev main_v154 : Ref sig .tc := ⟨.hbm, 202, rfl⟩
abbrev main_cst_36 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_37 : Ref sig .tc := ⟨.hbm, 209, rfl⟩
abbrev main_v160 : Ref sig .tc := ⟨.hbm, 210, rfl⟩
abbrev main_v161 : Ref sig .tc := ⟨.hbm, 211, rfl⟩
abbrev main_cst_38 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_v165 : Ref sig .tc := ⟨.hbm, 216, rfl⟩
abbrev main_v166 : Ref sig .tc := ⟨.hbm, 217, rfl⟩
abbrev main_v167 : Ref sig .tc := ⟨.hbm, 218, rfl⟩
abbrev main_call2_cst : Ref sig .tc := ⟨.hbm, 219, rfl⟩
abbrev main_call2_v0 : Ref sig .tc := ⟨.hbm, 220, rfl⟩
abbrev main_v168 : Ref sig .tc := ⟨.hbm, 221, rfl⟩
abbrev main_cst_39 : Ref sig .tc := ⟨.hbm, 222, rfl⟩
abbrev main_v169 : Ref sig .tc := ⟨.hbm, 223, rfl⟩
abbrev main_v170 : Ref sig .tc := ⟨.hbm, 224, rfl⟩
abbrev main_cst_40 : Ref sig .tc := ⟨.hbm, 225, rfl⟩
abbrev main_v171 : Ref sig .tc := ⟨.hbm, 226, rfl⟩
abbrev main_v172 : Ref sig .tc := ⟨.hbm, 227, rfl⟩
abbrev main_v173 : Ref sig .tc := ⟨.hbm, 228, rfl⟩
abbrev main_v174 : Ref sig .tc := ⟨.hbm, 229, rfl⟩
abbrev main_cst_41 : Ref sig .tc := ⟨.hbm, 230, rfl⟩
abbrev main_v175 : Ref sig .tc := ⟨.hbm, 231, rfl⟩
abbrev main_v176 : Ref sig .tc := ⟨.hbm, 232, rfl⟩
abbrev main_v177 : Ref sig .tc := ⟨.hbm, 233, rfl⟩
abbrev main_v178 : Ref sig .tc := ⟨.hbm, 234, rfl⟩
abbrev main_cst_42 : Ref sig .tc := ⟨.hbm, 235, rfl⟩
abbrev main_v179 : Ref sig .tc := ⟨.hbm, 236, rfl⟩
abbrev main_cst_43 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_cst_44 : Ref sig .tc := ⟨.hbm, 243, rfl⟩
abbrev main_v185 : Ref sig .tc := ⟨.hbm, 244, rfl⟩
abbrev main_v186 : Ref sig .tc := ⟨.hbm, 245, rfl⟩
abbrev main_v187 : Ref sig .tc := ⟨.hbm, 246, rfl⟩
abbrev main_cst_45 : Ref sig .tc := ⟨.hbm, 247, rfl⟩
abbrev main_v188 : Ref sig .tc := ⟨.hbm, 248, rfl⟩
abbrev main_v189 : Ref sig .tc := ⟨.hbm, 249, rfl⟩
abbrev main_v190 : Ref sig .tc := ⟨.hbm, 250, rfl⟩
abbrev main_v191 : Ref sig .tc := ⟨.hbm, 251, rfl⟩
abbrev main_v192 : Ref sig .tc := ⟨.hbm, 252, rfl⟩
abbrev main_v193 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_cst_46 : Ref sig .tc := ⟨.hbm, 259, rfl⟩
abbrev main_v199 : Ref sig .tc := ⟨.hbm, 260, rfl⟩
abbrev main_v200 : Ref sig .tc := ⟨.hbm, 261, rfl⟩
abbrev main_v201 : Ref sig .tc := ⟨.hbm, 262, rfl⟩
abbrev main_v202 : Ref sig .tc := ⟨.hbm, 263, rfl⟩
abbrev main_v203 : Ref sig .tc := ⟨.hbm, 264, rfl⟩
abbrev main_v204 : Ref sig .tc := ⟨.hbm, 265, rfl⟩
abbrev main_v205 : Ref sig .tc := ⟨.hbm, 266, rfl⟩
abbrev main_v206 : Ref sig .tc := ⟨.hbm, 267, rfl⟩
abbrev main_v207 : Ref sig .tc := ⟨.hbm, 268, rfl⟩
abbrev main_v208 : Ref sig .tc := ⟨.hbm, 269, rfl⟩
abbrev main_v209 : Ref sig .tc := ⟨.hbm, 270, rfl⟩
abbrev main_v210 : Ref sig .tc := ⟨.hbm, 271, rfl⟩
abbrev main_v211 : Ref sig .tc := ⟨.hbm, 272, rfl⟩
abbrev main_v212 : Ref sig .tc := ⟨.hbm, 273, rfl⟩
abbrev main_cst_47 : Ref sig .tc := ⟨.hbm, 274, rfl⟩
abbrev main_v213 : Ref sig .tc := ⟨.hbm, 275, rfl⟩
abbrev main_cst_48 : Ref sig .tc := ⟨.hbm, 276, rfl⟩
abbrev main_v214 : Ref sig .tc := ⟨.hbm, 277, rfl⟩
abbrev main_v215 : Ref sig .tc := ⟨.hbm, 278, rfl⟩
abbrev main_v216 : Ref sig .tc := ⟨.hbm, 279, rfl⟩
abbrev main_c_49 : Ref sig .tc := ⟨.hbm, 280, rfl⟩
abbrev main_v217 : Ref sig .tc := ⟨.hbm, 281, rfl⟩
abbrev main_v218 : Ref sig .tc := ⟨.hbm, 282, rfl⟩
abbrev main_c_50 : Ref sig .tc := ⟨.hbm, 283, rfl⟩
abbrev main_v219 : Ref sig .tc := ⟨.hbm, 284, rfl⟩
abbrev main_v220 : Ref sig .tc := ⟨.hbm, 285, rfl⟩
abbrev main_v221 : Ref sig .tc := ⟨.hbm, 286, rfl⟩
abbrev main_v222 : Ref sig .tc := ⟨.hbm, 287, rfl⟩
abbrev main_v223 : Ref sig .tc := ⟨.hbm, 288, rfl⟩
abbrev main_v224 : Ref sig .tc := ⟨.hbm, 289, rfl⟩
abbrev main_c_51 : Ref sig .tc := ⟨.hbm, 290, rfl⟩
abbrev main_v225 : Ref sig .tc := ⟨.hbm, 291, rfl⟩
abbrev main_v226 : Ref sig .tc := ⟨.hbm, 292, rfl⟩
abbrev main_c_52 : Ref sig .tc := ⟨.hbm, 293, rfl⟩
abbrev main_v227 : Ref sig .tc := ⟨.hbm, 294, rfl⟩
abbrev main_v228 : Ref sig .tc := ⟨.hbm, 295, rfl⟩
abbrev main_v229 : Ref sig .tc := ⟨.hbm, 296, rfl⟩
abbrev main_v230 : Ref sig .tc := ⟨.hbm, 297, rfl⟩
abbrev main_v231 : Ref sig .tc := ⟨.hbm, 298, rfl⟩
abbrev main_c_53 : Ref sig .tc := ⟨.hbm, 299, rfl⟩
abbrev main_v232 : Ref sig .tc := ⟨.hbm, 300, rfl⟩
abbrev main_v233 : Ref sig .tc := ⟨.hbm, 301, rfl⟩
abbrev main_c_54 : Ref sig .tc := ⟨.hbm, 302, rfl⟩
abbrev main_v234 : Ref sig .tc := ⟨.hbm, 303, rfl⟩
abbrev main_v235 : Ref sig .tc := ⟨.hbm, 304, rfl⟩
abbrev main_v236 : Ref sig .tc := ⟨.hbm, 305, rfl⟩
abbrev main_v237 : Ref sig .tc := ⟨.hbm, 306, rfl⟩
abbrev main_v238 : Ref sig .tc := ⟨.hbm, 307, rfl⟩
abbrev main_c_55 : Ref sig .tc := ⟨.hbm, 308, rfl⟩
abbrev main_v239 : Ref sig .tc := ⟨.hbm, 309, rfl⟩
abbrev main_v240 : Ref sig .tc := ⟨.hbm, 310, rfl⟩
abbrev main_c_56 : Ref sig .tc := ⟨.hbm, 311, rfl⟩
abbrev main_v241 : Ref sig .tc := ⟨.hbm, 312, rfl⟩
abbrev main_v242 : Ref sig .tc := ⟨.hbm, 313, rfl⟩
abbrev main_v243 : Ref sig .tc := ⟨.hbm, 314, rfl⟩
abbrev main_v244 : Ref sig .tc := ⟨.hbm, 315, rfl⟩
abbrev main_v245 : Ref sig .tc := ⟨.hbm, 316, rfl⟩
abbrev main_call5_v0 : Ref sig .tc := ⟨.hbm, 317, rfl⟩
abbrev main_v246 : Ref sig .tc := ⟨.hbm, 318, rfl⟩
abbrev main_c_57 : Ref sig .tc := ⟨.hbm, 319, rfl⟩
abbrev main_v247 : Ref sig .tc := ⟨.hbm, 320, rfl⟩
abbrev main_v248 : Ref sig .tc := ⟨.hbm, 321, rfl⟩
abbrev main_c_58 : Ref sig .tc := ⟨.hbm, 322, rfl⟩
abbrev main_v249 : Ref sig .tc := ⟨.hbm, 323, rfl⟩
abbrev main_v250 : Ref sig .tc := ⟨.hbm, 324, rfl⟩
abbrev main_v251 : Ref sig .tc := ⟨.hbm, 325, rfl⟩
abbrev main_v252 : Ref sig .tc := ⟨.hbm, 326, rfl⟩
abbrev main_v253 : Ref sig .tc := ⟨.hbm, 327, rfl⟩
abbrev main_c_59 : Ref sig .tc := ⟨.hbm, 328, rfl⟩
abbrev main_v254 : Ref sig .tc := ⟨.hbm, 329, rfl⟩
abbrev main_v255 : Ref sig .tc := ⟨.hbm, 330, rfl⟩
abbrev main_c_60 : Ref sig .tc := ⟨.hbm, 331, rfl⟩
abbrev main_v256 : Ref sig .tc := ⟨.hbm, 332, rfl⟩
abbrev main_v257 : Ref sig .tc := ⟨.hbm, 333, rfl⟩
abbrev main_v258 : Ref sig .tc := ⟨.hbm, 334, rfl⟩
abbrev main_v259 : Ref sig .tc := ⟨.hbm, 335, rfl⟩
abbrev main_v260 : Ref sig .tc := ⟨.hbm, 336, rfl⟩
abbrev main_c_61 : Ref sig .tc := ⟨.hbm, 337, rfl⟩
abbrev main_v261 : Ref sig .tc := ⟨.hbm, 338, rfl⟩
abbrev main_v262 : Ref sig .tc := ⟨.hbm, 339, rfl⟩
abbrev main_c_62 : Ref sig .tc := ⟨.hbm, 340, rfl⟩
abbrev main_v263 : Ref sig .tc := ⟨.hbm, 341, rfl⟩
abbrev main_v264 : Ref sig .tc := ⟨.hbm, 342, rfl⟩
abbrev main_v265 : Ref sig .tc := ⟨.hbm, 343, rfl⟩
abbrev main_v266 : Ref sig .tc := ⟨.hbm, 344, rfl⟩
abbrev main_v267 : Ref sig .tc := ⟨.hbm, 345, rfl⟩
abbrev main_call6_v0 : Ref sig .tc := ⟨.hbm, 346, rfl⟩
abbrev main_v268 : Ref sig .tc := ⟨.hbm, 347, rfl⟩
abbrev main_c_63 : Ref sig .tc := ⟨.hbm, 348, rfl⟩
abbrev main_v269 : Ref sig .tc := ⟨.hbm, 349, rfl⟩
abbrev main_v270 : Ref sig .tc := ⟨.hbm, 350, rfl⟩
abbrev main_c_64 : Ref sig .tc := ⟨.hbm, 351, rfl⟩
abbrev main_v271 : Ref sig .tc := ⟨.hbm, 352, rfl⟩
abbrev main_v272 : Ref sig .tc := ⟨.hbm, 353, rfl⟩
abbrev main_v273 : Ref sig .tc := ⟨.hbm, 354, rfl⟩
abbrev main_v274 : Ref sig .tc := ⟨.hbm, 355, rfl⟩
abbrev main_v275 : Ref sig .tc := ⟨.hbm, 356, rfl⟩
abbrev main_call7_v0 : Ref sig .tc := ⟨.hbm, 357, rfl⟩
abbrev main_v276 : Ref sig .tc := ⟨.hbm, 358, rfl⟩
abbrev main_c_65 : Ref sig .tc := ⟨.hbm, 359, rfl⟩
abbrev main_v277 : Ref sig .tc := ⟨.hbm, 360, rfl⟩
abbrev main_v278 : Ref sig .tc := ⟨.hbm, 361, rfl⟩
abbrev main_c_66 : Ref sig .tc := ⟨.hbm, 362, rfl⟩
abbrev main_v279 : Ref sig .tc := ⟨.hbm, 363, rfl⟩
abbrev main_v280 : Ref sig .tc := ⟨.hbm, 364, rfl⟩
abbrev main_v281 : Ref sig .tc := ⟨.hbm, 365, rfl⟩
abbrev main_v282 : Ref sig .tc := ⟨.hbm, 366, rfl⟩
abbrev main_v283 : Ref sig .tc := ⟨.hbm, 367, rfl⟩
abbrev main_call8_v0 : Ref sig .tc := ⟨.hbm, 368, rfl⟩
abbrev main_v284 : Ref sig .tc := ⟨.hbm, 369, rfl⟩
abbrev main_c_67 : Ref sig .tc := ⟨.hbm, 370, rfl⟩
abbrev main_v285 : Ref sig .tc := ⟨.hbm, 371, rfl⟩
abbrev main_v286 : Ref sig .tc := ⟨.hbm, 372, rfl⟩
abbrev main_c_68 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩

abbrev nD : Nat := 1
abbrev τ : Topo := Topo.v7x

variable {F : FTy → Type} [FloatOps F]
-- ==== Proof.Cell.lean ====
/-
  The mathematics of one swap of replica-exchange sampling, written over plain functions: one row of features, the
  weights of the energy, one temperature. Both programs are read into these functions; nothing here names a program.
-/
module

public import Idealize.ShloMosaic.PureOps.Ideal.Laws
public import Idealize.ShloMosaic.Lib.Pointwise
public import Idealize.ShloMosaic.Lib.IdealHost

@[expose] public section

noncomputable section

namespace Cert.Swap

open Idealize.ShloMosaic

/-- The printed constant for 0.1. -/
abbrev cTenth : EReal := Ideal.ofBits .f32 0x3DCCCCCD#32
/-- The printed constant for 0.9. -/
abbrev cNine : EReal := Ideal.ofBits .f32 0x3F666666#32
/-- The printed constant for 0.5. -/
abbrev cHalf : EReal := Ideal.ofBits .f32 0x3F000000#32
/-- The printed constant for the number of chains, 8192. -/
abbrev cCount : EReal := Ideal.ofBits .f32 0x46000000#32

/-- The temperature at a time. -/
def temp (t : EReal) : EReal := cTenth + cNine * t

/-- The hidden units of a row, before the rectifier. -/
def hid (x : Fin 512 → EReal) (W : Fin 512 → Fin 2048 → EReal) (h : Fin 2048) : EReal := ∑ d, x d * W d h

/-- The energy of a row. -/
def energy (x : Fin 512 → EReal) (W : Fin 512 → Fin 2048 → EReal) (w : Fin 2048 → EReal) : EReal :=
  ∑ h, (if 0 < hid x W h then hid x W h else 0) * w h

/-- The sum of the squares of a row. -/
def sqs (x : Fin 512 → EReal) : EReal := ∑ d, x d * x d

/-- The gradient of the energy of a row, at feature `d`. -/
def slope (x : Fin 512 → EReal) (W : Fin 512 → Fin 2048 → EReal) (w : Fin 2048 → EReal) (d : Fin 512) : EReal :=
  ∑ h, (if 0 < hid x W h then w h else 0) * W d h

/-- The log-probability of a row of energy `E` and squared norm `S` at temperature `τ`. -/
def logp (E S τ : EReal) : EReal := Ideal.div (-E) τ - Ideal.div (cHalf * S) (τ * τ)

/-- The log-probability of a row at a temperature. -/
def lp (x : Fin 512 → EReal) (W : Fin 512 → Fin 2048 → EReal) (w : Fin 2048 → EReal) (τ : EReal) : EReal :=
  logp (energy x W w) (sqs x) τ

/-- The gradient of the log-probability at one feature `v`, from the slope `g` of the energy and the temperature. -/
def grad (g v τ : EReal) : EReal := (g + v * Ideal.div 1 τ) * -(Ideal.div 1 τ)

/-- Whether the two rows of a pair are exchanged: the logarithm of the uniform sample is below the log-ratio. -/
def Swaps (xi xj : Fin 512 → EReal) (W : Fin 512 → Fin 2048 → EReal) (w : Fin 2048 → EReal) (τi τj u : EReal) : Prop :=
  Ideal.log u < (lp xj W w τi + lp xi W w τj) - (lp xi W w τi + lp xj W w τj)

instance (xi xj : Fin 512 → EReal) (W : Fin 512 → Fin 2048 → EReal) (w : Fin 2048 → EReal) (τi τj u : EReal) :
    Decidable (Swaps xi xj W w τi τj u) := inferInstanceAs (Decidable (_ < _))

/-- The printed constant 0.5 is one half. -/
theorem cHalf_eq : cHalf = (((1 / 2 : ℝ)) : EReal) := by
  simp [cHalf, Ideal.ofBits, Ideal.ieee]
  rw [← EReal.coe_mul]
  norm_num

/-- The larger of a number and zero is the number where it is above zero, and zero elsewhere. -/
theorem max_zero (z : EReal) : max z 0 = if 0 < z then z else 0 := by
  by_cases h : 0 < z
  · rw [if_pos h, max_eq_left h.le]
  · rw [if_neg h, max_eq_right (not_lt.mp h)]

/-- A choice made by a decided bit is the choice by the proposition. -/
theorem select_decide {α : Type} (p : Prop) [Decidable p] (a b : α) :
    Scalar.select (BitVec.ofBool (decide p)) a b = if p then a else b := by
  by_cases h : p
  · rw [if_pos h, decide_eq_true h]; rfl
  · rw [if_neg h, decide_eq_false h]; rfl

end Cert.Swap

end
-- ==== Proof.BlockRows.lean ====
/-
  What one grid point of the kernel computes before the choice: the rows of its two levels, their energies, squared norms and
  slopes, the temperatures, and the four log-probabilities, each read at an index.
-/
module

public import proofs.«01_k».proof.Proof.Gen.KernelIdeal.Frame
public import proofs.«01_k».proof.Proof.Cell
public import Idealize.ShloMosaic.Lib.Pointwise

@[expose] public section

set_option maxRecDepth 16384

noncomputable section

namespace Cert.Block

open Cert.KernelIdeal Cert.KernelIdeal.Gen Cert.Swap Idealize.ShloMosaic

/-- Row `r` of level `l` of a block of features. -/
abbrev rowOf (x0 : Vec Ideal S1x2x512x512 .f32) (l : Fin 2) (r : Fin 512) (d : Fin 512) : EReal := x0 (ix4 0 l r d)

/-- The first layer's weights, from the buffer that holds them. -/
abbrev mat (x3 : Vec Ideal S512x2048 .f32) (d : Fin 512) (h : Fin 2048) : EReal := x3 (ix2 d h)

/-- The second layer's weights, from the row that holds them. -/
abbrev vec (x5 : Vec Ideal S1x2048 .f32) (h : Fin 2048) : EReal := x5 (ix2 0 h)

variable (x0 : Vec Ideal S1x2x512x512 .f32) (x1 : Vec Ideal S1x2x512 .f32) (x2 : Vec Ideal S1x1x512 .f32)
  (x3 : Vec Ideal S512x2048 .f32) (x4 : Vec Ideal S2048x512 .f32) (x5 : Vec Ideal S1x2048 .f32) (x6 : Vec Ideal S2048x1 .f32)

/-- The first level's features as the body reads them. -/
theorem pay38_apply (r d : Fin 512) : k0_pay38 x0 x1 x2 x3 x4 x5 x6 (ix2 r d) = rowOf x0 0 r d := by
  pointwise [k0_pay38, k0_pay3]

/-- The second level's features as the body reads them. -/
theorem pay39_apply (r d : Fin 512) : k0_pay39 x0 x1 x2 x3 x4 x5 x6 (ix2 r d) = rowOf x0 1 r d := by
  pointwise [k0_pay39, k0_pay4]

/-- The first level's hidden units. -/
theorem pay5_apply (v0 : Vec Ideal S512x2048 .f32) (v3 : Vec Ideal S1x1x512x512 .f32) (r : Fin 512) (h : Fin 2048) :
    k0_pay5 v0 v3 (ix2 r h) = ∑ d, v3 (ix4 0 0 r d) * v0 (ix2 d h) := by
  pointwise [k0_pay5, k0_pay3]

/-- The second level's hidden units. -/
theorem pay9_apply (v0 : Vec Ideal S512x2048 .f32) (v5 : Vec Ideal S1x1x512x512 .f32) (r : Fin 512) (h : Fin 2048) :
    k0_pay9 v0 v5 (ix2 r h) = ∑ d, v5 (ix4 0 0 r d) * v0 (ix2 d h) := by
  pointwise [k0_pay9, k0_pay4]

/-- The second level's hidden units, over the block. -/
theorem pay43_apply (r : Fin 512) (h : Fin 2048) :
    k0_pay43 x0 x1 x2 x3 x4 x5 x6 (ix2 r h) = hid (rowOf x0 1 r) (mat x3) h := by
  pointwise [k0_pay43, pay9_apply, hid]

/-- The first level's energies. -/
theorem pay40_apply (hw : ∀ h, x6 (ix2 h 0) = x5 (ix2 0 h)) (r : Fin 512) :
    k0_pay40 x0 x1 x2 x3 x4 x5 x6 (ix2 r 0) = energy (rowOf x0 0 r) (mat x3) (vec x5) := by
  pointwise [k0_pay40, k0_pay6, pay5_apply]
  simp only [hw]
  rfl

/-- The first level's squared norms. -/
theorem pay42_apply (r : Fin 512) : k0_pay42 x0 x1 x2 x3 x4 x5 x6 (ix2 r 0) = sqs (rowOf x0 0 r) := by
  pointwise [k0_pay42, k0_pay8, k0_pay3, sqs]

/-- The first level's slopes. -/
theorem pay41_apply (hT : ∀ h d, x4 (ix2 h d) = x3 (ix2 d h)) (r d : Fin 512) :
    k0_pay41 x0 x1 x2 x3 x4 x5 x6 (ix2 r d) = slope (rowOf x0 0 r) (mat x3) (vec x5) d := by
  pointwise [k0_pay41, k0_pay7, k0_pay2, pay5_apply]
  simp only [hT]
  rfl

/-- The second level's slopes. -/
theorem pay44_apply (hT : ∀ h d, x4 (ix2 h d) = x3 (ix2 d h)) (r d : Fin 512) :
    k0_pay44 x0 x1 x2 x3 x4 x5 x6 (ix2 r d) = slope (rowOf x0 1 r) (mat x3) (vec x5) d := by
  pointwise [k0_pay44, k0_pay12, k0_pay2, pay43_apply]
  simp only [hT]
  rfl

/-- The first level's energies, laid along the lanes. -/
theorem pay45_apply (hw : ∀ h, x6 (ix2 h 0) = x5 (ix2 0 h)) (r : Fin 512) :
    k0_pay45 x0 x1 x2 x3 x4 x5 x6 (ix2 0 r) = energy (rowOf x0 0 r) (mat x3) (vec x5) := by
  pointwise [k0_pay45, k0_pay13]
  exact pay40_apply x0 x1 x2 x3 x4 x5 x6 hw r

/-- The second level's energies, laid along the lanes. -/
theorem pay46_apply (hw : ∀ h, x6 (ix2 h 0) = x5 (ix2 0 h)) (r : Fin 512) :
    k0_pay46 x0 x1 x2 x3 x4 x5 x6 (ix2 0 r) = energy (rowOf x0 1 r) (mat x3) (vec x5) := by
  pointwise [k0_pay46, k0_pay14, k0_pay10, k0_pay11, pay9_apply, pay43_apply]
  simp only [hw]
  rfl

/-- The first level's squared norms, laid along the lanes. -/
theorem pay47_apply (r : Fin 512) : k0_pay47 x0 x1 x2 x3 x4 x5 x6 (ix2 0 r) = sqs (rowOf x0 0 r) := by
  pointwise [k0_pay47, k0_pay15]
  exact pay42_apply x0 x1 x2 x3 x4 x5 x6 r

/-- The second level's squared norms, laid along the lanes. -/
theorem pay48_apply (r : Fin 512) : k0_pay48 x0 x1 x2 x3 x4 x5 x6 (ix2 0 r) = sqs (rowOf x0 1 r) := by
  pointwise [k0_pay48, k0_pay16, pay39_apply, sqs]

/-- The first level's temperatures. -/
theorem pay49_apply (r : Fin 512) : k0_pay49 x0 x1 x2 x3 x4 x5 x6 (ix2 0 r) = temp (x1 (ix3 0 0 r)) := by
  pointwise [k0_pay49, k0_pay18, k0_pay17, temp]

/-- The second level's temperatures. -/
theorem pay50_apply (r : Fin 512) : k0_pay50 x0 x1 x2 x3 x4 x5 x6 (ix2 0 r) = temp (x1 (ix3 0 1 r)) := by
  pointwise [k0_pay50, k0_pay19, k0_pay17, temp]

/-- The first level's log-probabilities at its own temperature. -/
theorem pay51_apply (hw : ∀ h, x6 (ix2 h 0) = x5 (ix2 0 h)) (r : Fin 512) :
    k0_pay51 x0 x1 x2 x3 x4 x5 x6 (ix2 0 r) = lp (rowOf x0 0 r) (mat x3) (vec x5) (temp (x1 (ix3 0 0 r))) := by
  pointwise [k0_pay51, k0_pay20, k0_pay13, k0_pay15, k0_pay18, k0_pay17]
  rw [pay40_apply x0 x1 x2 x3 x4 x5 x6 hw r, pay42_apply x0 x1 x2 x3 x4 x5 x6 r, zero_sub]
  rfl

/-- Zero along the lanes. -/
theorem pay52_apply (r : Fin 512) : k0_pay52 x0 x1 x2 x3 x4 x5 x6 (ix2 0 r) = 0 := by
  pointwise [k0_pay52, k0_pay21]

/-- The second level's log-probability at its own temperature. -/
theorem pay22_apply (v48 v50 v62 v71 : FVec Ideal S1x512 .f32) (h0 : ∀ r, v71 (ix2 0 r) = 0) (r : Fin 512) :
    k0_pay22 v48 v50 v62 v71 (ix2 0 r) = logp (v48 (ix2 0 r)) (v50 (ix2 0 r)) (v62 (ix2 0 r)) := by
  pointwise [k0_pay22, logp]
  rw [h0, zero_sub]

/-- The second level's log-probability at the first's temperature. -/
theorem pay23_apply (v48 v50 v57 : FVec Ideal S1x512 .f32) (r : Fin 512) :
    k0_pay23 v48 v50 v57 (ix2 0 r) = logp (v48 (ix2 0 r)) (v50 (ix2 0 r)) (v57 (ix2 0 r)) := by
  pointwise [k0_pay23, logp]
  rw [zero_sub]

/-- The first level's log-probability at the second's temperature. -/
theorem pay24_apply (v47 v49 v62 : FVec Ideal S1x512 .f32) (r : Fin 512) :
    k0_pay24 v47 v49 v62 (ix2 0 r) = logp (v47 (ix2 0 r)) (v49 (ix2 0 r)) (v62 (ix2 0 r)) := by
  pointwise [k0_pay24, logp]
  rw [zero_sub]

/-- Whether chain `r` of the block swaps. -/
abbrev BSwaps (r : Fin 512) : Prop :=
  Swaps (rowOf x0 0 r) (rowOf x0 1 r) (mat x3) (vec x5) (temp (x1 (ix3 0 0 r))) (temp (x1 (ix3 0 1 r))) (x2 (ix3 0 0 r))

/-- The accept bit of the block. -/
theorem pay53_apply (hw : ∀ h, x6 (ix2 h 0) = x5 (ix2 0 h)) (r : Fin 512) :
    k0_pay53 x0 x1 x2 x3 x4 x5 x6 (ix2 0 r) = BitVec.ofBool (decide (BSwaps x0 x1 x2 x3 x5 r)) := by
  pointwise [k0_pay53, k0_pay25]
  rw [pay23_apply, pay24_apply, pay22_apply _ _ _ _ (pay52_apply x0 x1 x2 x3 x4 x5 x6), pay45_apply x0 x1 x2 x3 x4 x5 x6 hw, pay46_apply x0 x1 x2 x3 x4 x5 x6 hw, pay47_apply,
    pay48_apply, pay49_apply, pay50_apply, pay51_apply x0 x1 x2 x3 x4 x5 x6 hw]
  rfl

end Cert.Block

end
-- ==== Proof.Spec.lean ====
/-
  The four results of a swap move over all chains, written over plain functions of the arguments: sixteen levels, paired as
  (2p, 2p+1), and 1024 chains.
-/
module

public import proofs.«01_k».proof.Proof.Cell

@[expose] public section

noncomputable section

namespace Cert.Swap

open Idealize.ShloMosaic

/-- Level `l` of the pair `p`. -/
def lvl (p : Fin 8) (l : Fin 2) : Fin 16 := ⟨p.val * 2 + l.val, by omega⟩

/-- The other level of a pair. -/
def other (l : Fin 2) : Fin 2 := 1 - l

/-- The pair of a level. -/
def pairOf (a : Fin 16) : Fin 8 := ⟨a.val / 2, by omega⟩

/-- The place of a level in its pair. -/
def placeOf (a : Fin 16) : Fin 2 := ⟨a.val % 2, by omega⟩

variable (X : Fin 16 → Fin 1024 → Fin 512 → EReal) (T : Fin 16 → Fin 1024 → EReal) (u : Fin 8 → Fin 1024 → EReal)
  (W : Fin 512 → Fin 2048 → EReal) (w : Fin 2048 → EReal)

/-- Pair `p` accepts the swap in chain `n`. -/
def Accept (p : Fin 8) (n : Fin 1024) : Prop :=
  Swaps (X (lvl p 0) n) (X (lvl p 1) n) W w (temp (T (lvl p 0) n)) (temp (T (lvl p 1) n)) (u p n)

instance (p : Fin 8) (n : Fin 1024) : Decidable (Accept X T u W w p n) := inferInstanceAs (Decidable (Swaps ..))

/-- The features after the move. -/
def newX (p : Fin 8) (l : Fin 2) (n : Fin 1024) (d : Fin 512) : EReal :=
  if Accept X T u W w p n then X (lvl p (other l)) n d else X (lvl p l) n d

/-- The log-probabilities after the move, each at its own level's temperature. -/
def newLp (p : Fin 8) (l : Fin 2) (n : Fin 1024) : EReal :=
  if Accept X T u W w p n then lp (X (lvl p (other l)) n) W w (temp (T (lvl p l) n))
  else lp (X (lvl p l) n) W w (temp (T (lvl p l) n))

/-- The gradients after the move, each at its own level's temperature. -/
def newGrad (p : Fin 8) (l : Fin 2) (n : Fin 1024) (d : Fin 512) : EReal :=
  grad (if Accept X T u W w p n then slope (X (lvl p (other l)) n) W w d else slope (X (lvl p l) n) W w d)
    (newX X T u W w p l n d) (temp (T (lvl p l) n))

/-- The accept flag of a pair's chain, as a number. -/
def flag (p : Fin 8) (n : Fin 1024) : EReal := if Accept X T u W w p n then 1 else 0

/-- The share of accepted swaps. -/
def rate : EReal := Ideal.div (∑ p : Fin 8, ∑ n : Fin 1024, flag X T u W w p n) cCount

end Cert.Swap

end
-- ==== Proof.Block.lean ====
/-
  What one grid point of the kernel writes: the two levels' new features, log-probabilities and gradients, and the accept
  flags, each read at an index of the block.
-/
module

public import proofs.«01_k».proof.Proof.BlockRows
public import proofs.«01_k».proof.Proof.Spec
public import Idealize.ShloMosaic.Lib.Pointwise
public import Idealize.ShloMosaic.Lib.Pipeline.ValueKit.Tiles

@[expose] public section

set_option maxRecDepth 16384

noncomputable section

namespace Cert.Block

open Cert.KernelIdeal Cert.KernelIdeal.Gen Cert.Swap Idealize.ShloMosaic

variable (x0 : Vec Ideal S1x2x512x512 .f32) (x1 : Vec Ideal S1x2x512 .f32) (x2 : Vec Ideal S1x1x512 .f32)
  (x3 : Vec Ideal S512x2048 .f32) (x4 : Vec Ideal S2048x512 .f32) (x5 : Vec Ideal S1x2048 .f32) (x6 : Vec Ideal S2048x1 .f32)

/-- The accept bit of a chain, as a number. -/
theorem bit_num (p : Prop) [Decidable p] :
    (((((BitVec.ofBool (decide p)).setWidth 32).toInt : ℤ) : ℝ) : EReal) = if p then 1 else 0 := by
  by_cases h : p <;> simp [h]

/-- One half lies between the two values of an accept flag. -/
theorem half_lt_bit (p : Prop) [Decidable p] : (cHalf < (if p then 1 else 0 : EReal)) ↔ p := by
  rw [cHalf_eq]
  by_cases h : p
  · rw [if_pos h]
    refine iff_of_true ?_ h
    rw [← EReal.coe_one, EReal.coe_lt_coe_iff]; norm_num
  · rw [if_neg h]
    refine iff_of_false ?_ h
    rw [← EReal.coe_zero, EReal.coe_lt_coe_iff]; norm_num

section Choice
variable (v : IVec S1x512 1) (p : Fin 512 → Prop) [∀ r, Decidable (p r)]
  (h : ∀ r, v (ix2 0 r) = BitVec.ofBool (decide (p r)))
include h

/-- The accept bit stood up along the rows. -/
theorem pay30_apply (r : Fin 512) : k0_pay30 (F := Ideal) v (ix2 r 0) = BitVec.ofBool (decide (p r)) := by
  pointwise [k0_pay30]
  rw [h r]
  refine congrArg BitVec.ofBool (decide_eq_decide.mpr ?_)
  show cHalf < (((((BitVec.ofBool (decide (p r))).setWidth 32).toInt : ℤ) : ℝ) : EReal) ↔ p r
  rw [bit_num, half_lt_bit]

/-- The first level's new features. -/
theorem pay32_apply (v4 v6 : FVec Ideal S512x512 .f32) (r d : Fin 512) :
    k0_pay32 v4 v6 v (ix2 r d) = if p r then v6 (ix2 r d) else v4 (ix2 r d) := by
  pointwise [k0_pay32]
  rw [pay30_apply v p h, select_decide]

/-- The second level's new features. -/
theorem pay33_apply (v4 v6 : FVec Ideal S512x512 .f32) (r d : Fin 512) :
    k0_pay33 v4 v6 v (ix2 r d) = if p r then v4 (ix2 r d) else v6 (ix2 r d) := by
  pointwise [k0_pay33]
  rw [pay30_apply v p h, select_decide]

/-- The first level's new features, as stored. -/
theorem pay34_apply (v4 v6 : FVec Ideal S512x512 .f32) (r d : Fin 512) :
    k0_pay34 v4 v6 v (ix4 0 0 r d) = if p r then v6 (ix2 r d) else v4 (ix2 r d) := by
  pointwise [k0_pay34]
  exact pay32_apply v p h v4 v6 r d

/-- The second level's new features, as stored. -/
theorem pay35_apply (v4 v6 : FVec Ideal S512x512 .f32) (r d : Fin 512) :
    k0_pay35 v4 v6 v (ix4 0 0 r d) = if p r then v4 (ix2 r d) else v6 (ix2 r d) := by
  pointwise [k0_pay35]
  exact pay33_apply v p h v4 v6 r d

/-- The first level's new gradients, as stored. -/
theorem pay36_apply (v4 v6 v23 v43 : FVec Ideal S512x512 .f32) (v57 : FVec Ideal S1x512 .f32) (r d : Fin 512) :
    k0_pay36 v4 v6 v23 v43 v57 v (ix4 0 0 r d)
      = grad (if p r then v43 (ix2 r d) else v23 (ix2 r d)) (if p r then v6 (ix2 r d) else v4 (ix2 r d)) (v57 (ix2 0 r)) := by
  pointwise [k0_pay36]
  rw [pay30_apply v p h, select_decide, pay32_apply v p h, zero_sub]
  rfl

/-- The second level's new gradients, as stored. -/
theorem pay1_apply (v4 v6 v23 v43 : FVec Ideal S512x512 .f32) (v62 : FVec Ideal S1x512 .f32) (r d : Fin 512) :
    k0_pay1 v23 v43 (k0_pay31 v62) (k0_pay33 v4 v6 v) (k0_pay37 (F := Ideal) v) (ix4 0 0 r d)
      = grad (if p r then v23 (ix2 r d) else v43 (ix2 r d)) (if p r then v4 (ix2 r d) else v6 (ix2 r d)) (v62 (ix2 0 r)) := by
  pointwise [k0_pay1, k0_pay31, k0_pay37]
  rw [pay30_apply v p h, select_decide, pay33_apply v p h, zero_sub]
  rfl

end Choice

/-- Any index of a one-level slab of features is its row and feature. -/
theorem slab_idx (x : S1x1x512x512.Idx) : ∃ r d : Fin 512, x = ix4 0 0 r d :=
  ⟨x 2, x 3, by
    funext a
    match a with
    | ⟨0, _⟩ => exact Subsingleton.elim (α := Fin 1) _ _
    | ⟨1, _⟩ => exact Subsingleton.elim (α := Fin 1) _ _
    | ⟨2, _⟩ => rfl
    | ⟨3, _⟩ => rfl⟩

/-- Any index of a one-level slab of numbers is its row. -/
theorem lane_idx (x : S1x1x512.Idx) : ∃ r : Fin 512, x = ix3 0 0 r :=
  ⟨x 2, by
    funext a
    match a with
    | ⟨0, _⟩ => exact Subsingleton.elim (α := Fin 1) _ _
    | ⟨1, _⟩ => exact Subsingleton.elim (α := Fin 1) _ _
    | ⟨2, _⟩ => rfl⟩

/-- The new features of level `l`: the other level's where the chain swaps. -/
theorem out7_apply (hw : ∀ h, x6 (ix2 h 0) = x5 (ix2 0 h)) (l : Fin 2) (r d : Fin 512) :
    out0_7 x0 x1 x2 x3 x4 x5 x6 (ix4 0 l r d)
      = if BSwaps x0 x1 x2 x3 x5 r then rowOf x0 (other l) r d else rowOf x0 l r d := by
  unfold out0_7
  refine View.canon_eq_of_allAt _ _ _ (cover0_7 _ _ _)
    (View.allAt_cons_unit _ _ _ _ _ (fun x hx => ?_) (View.allAt_cons_unit _ _ _ _ _ (fun x hx => ?_) (View.allAt_nil _ _)))
  · obtain ⟨r', d', rfl⟩ := slab_idx x
    have h1 : l.val = 1 + 0 := hx 1
    have h2 : r.val = 0 + r'.val := hx 2
    have h3 : d.val = 0 + d'.val := hx 3
    obtain rfl : l = 1 := Fin.ext (by simpa using h1)
    obtain rfl : r = r' := Fin.ext (by simpa using h2)
    obtain rfl : d = d' := Fin.ext (by simpa using h3)
    rw [pay35_apply _ _ (pay53_apply x0 x1 x2 x3 x4 x5 x6 hw), pay38_apply, pay39_apply]
    rfl
  · obtain ⟨r', d', rfl⟩ := slab_idx x
    have h1 : l.val = 0 + 0 := hx 1
    have h2 : r.val = 0 + r'.val := hx 2
    have h3 : d.val = 0 + d'.val := hx 3
    obtain rfl : l = 0 := Fin.ext (by simpa using h1)
    obtain rfl : r = r' := Fin.ext (by simpa using h2)
    obtain rfl : d = d' := Fin.ext (by simpa using h3)
    rw [pay34_apply _ _ (pay53_apply x0 x1 x2 x3 x4 x5 x6 hw), pay38_apply, pay39_apply]
    rfl

/-- The new gradients of level `l`. -/
theorem out9_apply (hw : ∀ h, x6 (ix2 h 0) = x5 (ix2 0 h)) (hT : ∀ h d, x4 (ix2 h d) = x3 (ix2 d h))
    (l : Fin 2) (r d : Fin 512) :
    out0_9 x0 x1 x2 x3 x4 x5 x6 (ix4 0 l r d)
      = grad (if BSwaps x0 x1 x2 x3 x5 r then slope (rowOf x0 (other l) r) (mat x3) (vec x5) d
            else slope (rowOf x0 l r) (mat x3) (vec x5) d)
          (if BSwaps x0 x1 x2 x3 x5 r then rowOf x0 (other l) r d else rowOf x0 l r d) (temp (x1 (ix3 0 l r))) := by
  unfold out0_9
  refine View.canon_eq_of_allAt _ _ _ (cover0_9 _ _ _)
    (View.allAt_cons_unit _ _ _ _ _ (fun x hx => ?_) (View.allAt_cons_unit _ _ _ _ _ (fun x hx => ?_) (View.allAt_nil _ _)))
  · obtain ⟨r', d', rfl⟩ := slab_idx x
    have h1 : l.val = 1 + 0 := hx 1
    have h2 : r.val = 0 + r'.val := hx 2
    have h3 : d.val = 0 + d'.val := hx 3
    obtain rfl : l = 1 := Fin.ext (by simpa using h1)
    obtain rfl : r = r' := Fin.ext (by simpa using h2)
    obtain rfl : d = d' := Fin.ext (by simpa using h3)
    rw [pay1_apply _ _ (pay53_apply x0 x1 x2 x3 x4 x5 x6 hw), pay38_apply, pay39_apply, pay41_apply x0 x1 x2 x3 x4 x5 x6 hT, pay44_apply x0 x1 x2 x3 x4 x5 x6 hT, pay50_apply]
    rfl
  · obtain ⟨r', d', rfl⟩ := slab_idx x
    have h1 : l.val = 0 + 0 := hx 1
    have h2 : r.val = 0 + r'.val := hx 2
    have h3 : d.val = 0 + d'.val := hx 3
    obtain rfl : l = 0 := Fin.ext (by simpa using h1)
    obtain rfl : r = r' := Fin.ext (by simpa using h2)
    obtain rfl : d = d' := Fin.ext (by simpa using h3)
    rw [pay36_apply _ _ (pay53_apply x0 x1 x2 x3 x4 x5 x6 hw), pay38_apply, pay39_apply, pay41_apply x0 x1 x2 x3 x4 x5 x6 hT, pay44_apply x0 x1 x2 x3 x4 x5 x6 hT, pay49_apply]
    rfl

/-- The first level's new log-probabilities, as stored. -/
theorem pay27_apply (hw : ∀ h, x6 (ix2 h 0) = x5 (ix2 0 h)) (r : Fin 512) :
    k0_pay27 (k0_pay45 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6) (k0_pay52 x0 x1 x2 x3 x4 x5 x6)
        (View.ld x2 r0_7) (ix3 0 0 r)
      = if BSwaps x0 x1 x2 x3 x5 r then lp (rowOf x0 1 r) (mat x3) (vec x5) (temp (x1 (ix3 0 0 r)))
        else lp (rowOf x0 0 r) (mat x3) (vec x5) (temp (x1 (ix3 0 0 r))) := by
  pointwise [k0_pay27]
  refine (congrArg (fun b => Scalar.select b _ _) (pay53_apply x0 x1 x2 x3 x4 x5 x6 hw r)).trans ?_
  rw [select_decide, pay23_apply, pay46_apply x0 x1 x2 x3 x4 x5 x6 hw, pay48_apply, pay49_apply, pay51_apply x0 x1 x2 x3 x4 x5 x6 hw]
  rfl

/-- The second level's new log-probabilities, as stored. -/
theorem pay29_apply (hw : ∀ h, x6 (ix2 h 0) = x5 (ix2 0 h)) (r : Fin 512) :
    k0_pay29 (k0_pay28 (k0_pay45 x0 x1 x2 x3 x4 x5 x6) (k0_pay46 x0 x1 x2 x3 x4 x5 x6) (k0_pay47 x0 x1 x2 x3 x4 x5 x6) (k0_pay48 x0 x1 x2 x3 x4 x5 x6) (k0_pay49 x0 x1 x2 x3 x4 x5 x6) (k0_pay50 x0 x1 x2 x3 x4 x5 x6) (k0_pay51 x0 x1 x2 x3 x4 x5 x6)
        (k0_pay52 x0 x1 x2 x3 x4 x5 x6) (View.ld x2 r0_7)) (ix3 0 0 r)
      = if BSwaps x0 x1 x2 x3 x5 r then lp (rowOf x0 0 r) (mat x3) (vec x5) (temp (x1 (ix3 0 1 r)))
        else lp (rowOf x0 1 r) (mat x3) (vec x5) (temp (x1 (ix3 0 1 r))) := by
  pointwise [k0_pay29, k0_pay28]
  refine (congrArg (fun b => Scalar.select b _ _) (pay53_apply x0 x1 x2 x3 x4 x5 x6 hw r)).trans ?_
  rw [select_decide, pay24_apply, pay22_apply _ _ _ _ (pay52_apply x0 x1 x2 x3 x4 x5 x6), pay45_apply x0 x1 x2 x3 x4 x5 x6 hw, pay46_apply x0 x1 x2 x3 x4 x5 x6 hw, pay47_apply,
    pay48_apply, pay50_apply]
  rfl

/-- The new log-probabilities of level `l`, at its own temperature. -/
theorem out8_apply (hw : ∀ h, x6 (ix2 h 0) = x5 (ix2 0 h)) (l : Fin 2) (r : Fin 512) :
    out0_8 x0 x1 x2 x3 x4 x5 x6 (ix3 0 l r)
      = if BSwaps x0 x1 x2 x3 x5 r then lp (rowOf x0 (other l) r) (mat x3) (vec x5) (temp (x1 (ix3 0 l r)))
        else lp (rowOf x0 l r) (mat x3) (vec x5) (temp (x1 (ix3 0 l r))) := by
  unfold out0_8
  refine View.canon_eq_of_allAt _ _ _ (cover0_8 _ _ _)
    (View.allAt_cons_unit _ _ _ _ _ (fun x hx => ?_) (View.allAt_cons_unit _ _ _ _ _ (fun x hx => ?_) (View.allAt_nil _ _)))
  · obtain ⟨r', rfl⟩ := lane_idx x
    have h1 : l.val = 1 + 0 := hx 1
    have h2 : r.val = 0 + r'.val := hx 2
    obtain rfl : l = 1 := Fin.ext (by simpa using h1)
    obtain rfl : r = r' := Fin.ext (by simpa using h2)
    exact pay29_apply x0 x1 x2 x3 x4 x5 x6 hw r
  · obtain ⟨r', rfl⟩ := lane_idx x
    have h1 : l.val = 0 + 0 := hx 1
    have h2 : r.val = 0 + r'.val := hx 2
    obtain rfl : l = 0 := Fin.ext (by simpa using h1)
    obtain rfl : r = r' := Fin.ext (by simpa using h2)
    exact pay27_apply x0 x1 x2 x3 x4 x5 x6 hw r

/-- The accept flags. -/
theorem out10_apply (hw : ∀ h, x6 (ix2 h 0) = x5 (ix2 0 h)) (r : Fin 512) :
    out0_10 x0 x1 x2 x3 x4 x5 x6 (ix3 0 0 r) = if BSwaps x0 x1 x2 x3 x5 r then 1 else 0 := by
  unfold out0_10
  refine View.canon_eq_of_allAt _ _ _ (cover0_10 _ _) (View.allAt_cons_unit _ _ _ _ _ (fun x hx => ?_) (View.allAt_nil _ _))
  obtain ⟨r', rfl⟩ := lane_idx x
  have h2 : r.val = 0 + r'.val := hx 2
  obtain rfl : r = r' := Fin.ext (by simpa using h2)
  pointwise [k0_pay26]
  refine Eq.trans ?_ (bit_num (BSwaps x0 x1 x2 x3 x5 r))
  exact congrArg (fun b : BitVec 1 => ((((b.setWidth 32).toInt : ℤ) : ℝ) : EReal)) (pay53_apply x0 x1 x2 x3 x4 x5 x6 hw r)

end Cert.Block

end
-- ==== Proof.Arrays.lean ====
/-
  The blocks that a grid point of the kernel reads, as the argument arrays at indices.
-/
module

public import proofs.«01_k».proof.Proof.Block
public import proofs.«01_k».proof.Proof.Gen.KernelIdeal.Frame
public import Idealize.ShloMosaic.Lib.Pipeline.ValueKit
public import Idealize.ShloMosaic.Lib.StableHlo.ReadAt

@[expose] public section

set_option maxRecDepth 16384

noncomputable section

namespace Cert.Block

open Cert.KernelIdeal Cert.KernelIdeal.Gen Cert.Swap Idealize.ShloMosaic Idealize.ShloMosaic.TcCoe
open Idealize.SL.Sem

variable (m : (ℓ : Loc nD τ sig) → Buf (Elt Ideal) ℓ) (c : Dev nD)

/-- The argument of the features, at an index. -/
def argX (a : Fin 16) (n : Fin 1024) (d : Fin 512) : EReal :=
  (m ((c : Thread nD τ).loc main_arg0) : Vec Ideal S16x1024x512 .f32) (ix3 a n d)
/-- The argument of the times, at an index. -/
def argT (a : Fin 16) (n : Fin 1024) : EReal :=
  (m ((c : Thread nD τ).loc main_arg1) : Vec Ideal S16x1024x1 .f32) (ix3 a n 0)
/-- The argument of the uniform draws, at an index. -/
def argU (p : Fin 8) (n : Fin 1024) : EReal :=
  (m ((c : Thread nD τ).loc main_arg2) : Vec Ideal S8x1024 .f32) (ix2 p n)
/-- The argument of the first weights, at an index. -/
def argW (d : Fin 512) (h : Fin 2048) : EReal :=
  (m ((c : Thread nD τ).loc main_arg3) : Vec Ideal S512x2048 .f32) (ix2 d h)
/-- The argument of the second weights, at an index. -/
def argV (h : Fin 2048) : EReal :=
  (m ((c : Thread nD τ).loc main_arg5) : Vec Ideal S2048 .f32) (ix1 h)

/-- Where each window's block sits at a grid point. -/
theorem idx : ∀ t : Fin cfg0.N,
    win0_0.index t = ![t.val / 2, 0, t.val % 2, 0] ∧ win0_1.index t = ![t.val / 2, 0, t.val % 2]
    ∧ win0_2.index t = ![t.val / 2, 0, t.val % 2] ∧ win0_3.index t = ![0, 0] ∧ win0_4.index t = ![0, 0]
    ∧ win0_5.index t = ![0, 0] ∧ win0_6.index t = ![0, 0]
    ∧ win0_7.index t = ![t.val / 2, 0, t.val % 2, 0] ∧ win0_8.index t = ![t.val / 2, 0, t.val % 2]
    ∧ win0_9.index t = ![t.val / 2, 0, t.val % 2, 0] ∧ win0_10.index t = ![t.val / 2, 0, t.val % 2]
    ∧ t.val / 2 < 8 := (by decide +kernel : ∀ t : Fin grid0.N, _)

/-- The pair of levels at a grid point. -/
def pr (t : Fin cfg0.N) : Fin 8 := ⟨t.val / 2, (idx t).2.2.2.2.2.2.2.2.2.2.2⟩
/-- The chain of a row at a grid point. -/
def ch (t : Fin cfg0.N) (r : Fin 512) : Fin 1024 := ⟨(t.val % 2) * 512 + r.val, by omega⟩

/-- The reshaped features. -/
theorem V_v0_at (p : Fin 8) (l : Fin 2) (n : Fin 1024) (d : Fin 512) :
    (V m c main_v0 : Vec Ideal S8x2x1024x512 .f32) (ix4 p l n d) = argX m c (lvl p l) n d := by
  unfold argX lvl
  simp only [V, V0, List.flatten_cons, List.flatten_nil, List.append_nil, hostOps0]
  after_reads_at

/-- The reshaped times. -/
theorem V_v1_at (p : Fin 8) (l : Fin 2) (n : Fin 1024) :
    (V m c main_v1 : Vec Ideal S8x2x1024 .f32) (ix3 p l n) = argT m c (lvl p l) n := by
  unfold argT lvl
  simp only [V, V0, List.flatten_cons, List.flatten_nil, List.append_nil, hostOps0]
  after_reads_at

/-- The reshaped draws. -/
theorem V_v2_at (p : Fin 8) (n : Fin 1024) :
    (V m c main_v2 : Vec Ideal S8x1x1024 .f32) (ix3 p 0 n) = argU m c p n := by
  unfold argU
  simp only [V, V0, List.flatten_cons, List.flatten_nil, List.append_nil, hostOps0]
  after_reads_at

/-- The transposed first weights. -/
theorem V_v3_at (h : Fin 2048) (d : Fin 512) :
    (V m c main_v3 : Vec Ideal S2048x512 .f32) (ix2 h d) = argW m c d h := by
  unfold argW
  simp only [V, V0, List.flatten_cons, List.flatten_nil, List.append_nil, hostOps0]
  after_reads_at

/-- The second weights as a row. -/
theorem V_v4_at (h : Fin 2048) :
    (V m c main_v4 : Vec Ideal S1x2048 .f32) (ix2 0 h) = argV m c h := by
  unfold argV
  simp only [V, V0, List.flatten_cons, List.flatten_nil, List.append_nil, hostOps0]
  after_reads_at

/-- The second weights as a column. -/
theorem V_v5_at (h : Fin 2048) :
    (V m c main_v5 : Vec Ideal S2048x1 .f32) (ix2 h 0) = argV m c h := by
  unfold argV
  simp only [V, V0, List.flatten_cons, List.flatten_nil, List.append_nil, hostOps0]
  after_reads_at

/-- The block of the features. -/
theorem iblk0_at (t : Fin cfg0.N) (l : Fin 2) (r d : Fin 512) :
    (iblk m c 0 t : Vec Ideal S1x2x512x512 .f32) (ix4 0 l r d) = argX m c (lvl (pr t) l) (ch t r) d := by
  refine Eq.trans ?_ (V_v0_at m c (pr t) l (ch t r) d)
  unfold pr ch
  blk_ext [iblk, idx t]

/-- The block of the times. -/
theorem iblk1_at (t : Fin cfg0.N) (l : Fin 2) (r : Fin 512) :
    (iblk m c 1 t : Vec Ideal S1x2x512 .f32) (ix3 0 l r) = argT m c (lvl (pr t) l) (ch t r) := by
  refine Eq.trans ?_ (V_v1_at m c (pr t) l (ch t r))
  unfold pr ch
  blk_ext [iblk, idx t]

/-- The block of the draws. -/
theorem iblk2_at (t : Fin cfg0.N) (r : Fin 512) :
    (iblk m c 2 t : Vec Ideal S1x1x512 .f32) (ix3 0 0 r) = argU m c (pr t) (ch t r) := by
  refine Eq.trans ?_ (V_v2_at m c (pr t) (ch t r))
  unfold pr ch
  blk_ext [iblk, idx t]

/-- The block of the first weights. -/
theorem iblk3_at (t : Fin cfg0.N) (d : Fin 512) (h : Fin 2048) :
    (iblk m c 3 t : Vec Ideal S512x2048 .f32) (ix2 d h) = argW m c d h := by
  unfold argW
  rw [← V_main_arg3 m c]
  blk_ext [iblk, idx t]

/-- The block of the transposed first weights. -/
theorem iblk4_at (t : Fin cfg0.N) (h : Fin 2048) (d : Fin 512) :
    (iblk m c 4 t : Vec Ideal S2048x512 .f32) (ix2 h d) = argW m c d h := by
  refine Eq.trans ?_ (V_v3_at m c h d)
  blk_ext [iblk, idx t]

/-- The block of the second weights as a row. -/
theorem iblk5_at (t : Fin cfg0.N) (h : Fin 2048) :
    (iblk m c 5 t : Vec Ideal S1x2048 .f32) (ix2 0 h) = argV m c h := by
  refine Eq.trans ?_ (V_v4_at m c h)
  blk_ext [iblk, idx t]

/-- The block of the second weights as a column. -/
theorem iblk6_at (t : Fin cfg0.N) (h : Fin 2048) :
    (iblk m c 6 t : Vec Ideal S2048x1 .f32) (ix2 h 0) = argV m c h := by
  refine Eq.trans ?_ (V_v5_at m c h)
  blk_ext [iblk, idx t]

/-- A row of the block is a row of the features. -/
theorem rowOf_iblk (t : Fin cfg0.N) (l : Fin 2) (r : Fin 512) :
    rowOf (iblk m c 0 t) l r = argX m c (lvl (pr t) l) (ch t r) := funext fun d => iblk0_at m c t l r d
/-- An entry of a row of the block is an entry of the features. -/
theorem rowOf_iblk_at (t : Fin cfg0.N) (l : Fin 2) (r d : Fin 512) :
    rowOf (iblk m c 0 t) l r d = argX m c (lvl (pr t) l) (ch t r) d := iblk0_at m c t l r d
/-- The matrix of the block is the first weights. -/
theorem mat_iblk (t : Fin cfg0.N) : mat (iblk m c 3 t) = argW m c :=
  funext fun d => funext fun h => iblk3_at m c t d h
/-- The vector of the block is the second weights. -/
theorem vec_iblk (t : Fin cfg0.N) : vec (iblk m c 5 t) = argV m c := funext fun h => iblk5_at m c t h

/-- The column of second weights is the row of second weights. -/
theorem col_iblk (t : Fin cfg0.N) (h : Fin 2048) :
    (iblk m c 6 t : Vec Ideal S2048x1 .f32) (ix2 h 0) = (iblk m c 5 t : Vec Ideal S1x2048 .f32) (ix2 0 h) :=
  (iblk6_at m c t h).trans (iblk5_at m c t h).symm
/-- The transposed first weights are the first weights. -/
theorem tr_iblk (t : Fin cfg0.N) (h : Fin 2048) (d : Fin 512) :
    (iblk m c 4 t : Vec Ideal S2048x512 .f32) (ix2 h d) = (iblk m c 3 t : Vec Ideal S512x2048 .f32) (ix2 d h) :=
  (iblk4_at m c t h d).trans (iblk3_at m c t d h).symm

/-- A row of the block accepts its swap exactly when its chain does. -/
theorem bswaps_iblk (t : Fin cfg0.N) (r : Fin 512) :
    BSwaps (iblk m c 0 t) (iblk m c 1 t) (iblk m c 2 t) (iblk m c 3 t) (iblk m c 5 t) r
      ↔ Accept (argX m c) (argT m c) (argU m c) (argW m c) (argV m c) (pr t) (ch t r) := by
  unfold BSwaps Accept
  rw [rowOf_iblk, rowOf_iblk, mat_iblk, vec_iblk, iblk1_at, iblk1_at, iblk2_at]

end Cert.Block

end
-- ==== Proof.Outputs.lean ====
/-
  The four arrays that the kernel writes, each at an index, over the argument arrays.
-/
module

public import proofs.«01_k».proof.Proof.Arrays

@[expose] public section

set_option maxRecDepth 16384

noncomputable section

namespace Cert.Block

open Cert.KernelIdeal Cert.KernelIdeal.Gen Cert.Swap Idealize.ShloMosaic Idealize.ShloMosaic.TcCoe
open Idealize.SL.Sem

variable (m : (ℓ : Loc nD τ sig) → Buf (Elt Ideal) ℓ) (c : Dev nD)

/-- The features after the move, by pair, level and chain. -/
def outX : Vec Ideal S8x2x1024x512 .f32 := fun j =>
  newX (argX m c) (argT m c) (argU m c) (argW m c) (argV m c) (j 0) (j 1) (j 2) (j 3)
/-- The log-probabilities after the move, by pair, level and chain. -/
def outLp : Vec Ideal S8x2x1024 .f32 := fun j =>
  newLp (argX m c) (argT m c) (argU m c) (argW m c) (argV m c) (j 0) (j 1) (j 2)
/-- The gradients after the move, by pair, level and chain. -/
def outGrad : Vec Ideal S8x2x1024x512 .f32 := fun j =>
  newGrad (argX m c) (argT m c) (argU m c) (argW m c) (argV m c) (j 0) (j 1) (j 2) (j 3)
/-- The accept flags, by pair and chain. -/
def outFlag : Vec Ideal S8x1x1024 .f32 := fun j =>
  flag (argX m c) (argT m c) (argU m c) (argW m c) (argV m c) (j 0) (j 2)

/-- A grid point leaves its block of the new features. -/
theorem point7 (t : Fin cfg0.N) (l : Fin 2) (r d : Fin 512) :
    out0_7 (iblk m c 0 t) (iblk m c 1 t) (iblk m c 2 t) (iblk m c 3 t) (iblk m c 4 t) (iblk m c 5 t) (iblk m c 6 t)
      (ix4 0 l r d) = newX (argX m c) (argT m c) (argU m c) (argW m c) (argV m c) (pr t) l (ch t r) d := by
  refine (out7_apply _ _ _ _ _ _ _ (col_iblk m c t) l r d).trans ?_
  simp only [bswaps_iblk, rowOf_iblk_at, newX]

/-- A grid point leaves its block of the new log-probabilities. -/
theorem point8 (t : Fin cfg0.N) (l : Fin 2) (r : Fin 512) :
    out0_8 (iblk m c 0 t) (iblk m c 1 t) (iblk m c 2 t) (iblk m c 3 t) (iblk m c 4 t) (iblk m c 5 t) (iblk m c 6 t)
      (ix3 0 l r) = newLp (argX m c) (argT m c) (argU m c) (argW m c) (argV m c) (pr t) l (ch t r) := by
  refine (out8_apply _ _ _ _ _ _ _ (col_iblk m c t) l r).trans ?_
  simp only [bswaps_iblk, rowOf_iblk, mat_iblk, vec_iblk, iblk1_at, newLp]

/-- A grid point leaves its block of the new gradients. -/
theorem point9 (t : Fin cfg0.N) (l : Fin 2) (r d : Fin 512) :
    out0_9 (iblk m c 0 t) (iblk m c 1 t) (iblk m c 2 t) (iblk m c 3 t) (iblk m c 4 t) (iblk m c 5 t) (iblk m c 6 t)
      (ix4 0 l r d) = newGrad (argX m c) (argT m c) (argU m c) (argW m c) (argV m c) (pr t) l (ch t r) d := by
  refine (out9_apply _ _ _ _ _ _ _ (col_iblk m c t) (tr_iblk m c t) l r d).trans ?_
  simp only [bswaps_iblk, rowOf_iblk, mat_iblk, vec_iblk, iblk1_at, newGrad, newX, rowOf_iblk_at]

/-- A grid point leaves its block of the accept flags. -/
theorem point10 (t : Fin cfg0.N) (r : Fin 512) :
    out0_10 (iblk m c 0 t) (iblk m c 1 t) (iblk m c 2 t) (iblk m c 3 t) (iblk m c 4 t) (iblk m c 5 t) (iblk m c 6 t)
      (ix3 0 0 r) = flag (argX m c) (argT m c) (argU m c) (argW m c) (argV m c) (pr t) (ch t r) := by
  refine (out10_apply _ _ _ _ _ _ _ (col_iblk m c t) r).trans ?_
  simp only [bswaps_iblk, flag]

/-- The array of new features. -/
theorem arr7 : (dats m 0 c).arrAt 7 cfg0.N = outX m c := by
  refine (dats m 0 c).arrAt_eq_of_covers 7 _ (by decide +kernel) fun t hf y => ?_
  blk_simp
  rw [after0_7]
  idx_vars y
  obtain rfl : y0 = 0 := Subsingleton.elim _ _
  refine (point7 m c t y1 y2 y3).trans ?_
  have e : ((View.whole main_v6_0).slice (win0_7.rect t)).emb (ix4 0 y1 y2 y3) = ix4 (pr t) y1 (ch t y2) y3 := by
    unfold pr ch
    blk_ext [idx t]
  rw [e]
  rfl

/-- The array of new log-probabilities. -/
theorem arr8 : (dats m 0 c).arrAt 8 cfg0.N = outLp m c := by
  refine (dats m 0 c).arrAt_eq_of_covers 8 _ (by decide +kernel) fun t hf y => ?_
  blk_simp
  rw [after0_8]
  idx_vars y
  obtain rfl : y0 = 0 := Subsingleton.elim _ _
  refine (point8 m c t y1 y2).trans ?_
  have e : ((View.whole main_v6_1).slice (win0_8.rect t)).emb (ix3 0 y1 y2) = ix3 (pr t) y1 (ch t y2) := by
    unfold pr ch
    blk_ext [idx t]
  rw [e]
  rfl

/-- The array of new gradients. -/
theorem arr9 : (dats m 0 c).arrAt 9 cfg0.N = outGrad m c := by
  refine (dats m 0 c).arrAt_eq_of_covers 9 _ (by decide +kernel) fun t hf y => ?_
  blk_simp
  rw [after0_9]
  idx_vars y
  obtain rfl : y0 = 0 := Subsingleton.elim _ _
  refine (point9 m c t y1 y2 y3).trans ?_
  have e : ((View.whole main_v6_2).slice (win0_9.rect t)).emb (ix4 0 y1 y2 y3) = ix4 (pr t) y1 (ch t y2) y3 := by
    unfold pr ch
    blk_ext [idx t]
  rw [e]
  rfl

/-- The array of accept flags. -/
theorem arr10 : (dats m 0 c).arrAt 10 cfg0.N = outFlag m c := by
  refine (dats m 0 c).arrAt_eq_of_covers 10 _ (by decide +kernel) fun t hf y => ?_
  blk_simp
  rw [after0_10]
  idx_vars y
  obtain rfl : y0 = 0 := Subsingleton.elim _ _
  obtain rfl : y1 = 0 := Subsingleton.elim _ _
  refine (point10 m c t y2).trans ?_
  have e : ((View.whole main_v6_3).slice (win0_10.rect t)).emb (ix3 0 0 y2) = ix3 (pr t) 0 (ch t y2) := by
    unfold pr ch
    blk_ext [idx t]
  rw [e]
  rfl

end Cert.Block

end
-- ==== Proof.KernelRun.lean ====
/-
  The run of the kernel program: what its four results hold, over the argument arrays.
-/
module

public import proofs.«01_k».proof.Proof.Outputs
public import Idealize.ShloMosaic.Lib.Claim

@[expose] public section

set_option maxRecDepth 16384

noncomputable section

namespace Cert.Block

open Cert.KernelIdeal Cert.KernelIdeal.Gen Cert.Swap Idealize.ShloMosaic Idealize.ShloMosaic.TcCoe
open Idealize.SL.Sem

variable (m : (ℓ : Loc nD τ sig) → Buf (Elt Ideal) ℓ) (c : Dev nD)

/-- The new features, by level and chain. -/
def resX : Vec Ideal S16x1024x512 .f32 := fun j =>
  newX (argX m c) (argT m c) (argU m c) (argW m c) (argV m c) (pairOf (j 0)) (placeOf (j 0)) (j 1) (j 2)
/-- The new log-probabilities, by level and chain. -/
def resLp : Vec Ideal S16x1024 .f32 := fun j =>
  newLp (argX m c) (argT m c) (argU m c) (argW m c) (argV m c) (pairOf (j 0)) (placeOf (j 0)) (j 1)
/-- The new gradients, by level and chain. -/
def resGrad : Vec Ideal S16x1024x512 .f32 := fun j =>
  newGrad (argX m c) (argT m c) (argU m c) (argW m c) (argV m c) (pairOf (j 0)) (placeOf (j 0)) (j 1) (j 2)
/-- The share of accepted swaps. -/
def resRate : Vec Ideal S_ .f32 := fun _ =>
  rate (argX m c) (argT m c) (argU m c) (argW m c) (argV m c)

/-- The features of the pairs, written by level. -/
theorem byLevelX : shapeCast S16x1024x512 (outX m c) shapeCasts_S8x2x1024x512_S16x1024x512 = resX m c := by
  funext j
  idx_vars j
  pointwise
  rfl

/-- The log-probabilities of the pairs, written by level. -/
theorem byLevelLp : shapeCast S16x1024 (outLp m c) shapeCasts_S8x2x1024_S16x1024 = resLp m c := by
  funext j
  idx_vars j
  pointwise
  rfl

/-- The gradients of the pairs, written by level. -/
theorem byLevelGrad : shapeCast S16x1024x512 (outGrad m c) shapeCasts_S8x2x1024x512_S16x1024x512 = resGrad m c := by
  funext j
  idx_vars j
  pointwise
  rfl

/-- The mean of the accept flags. -/
theorem meanFlag : Host.divf (Host.reduceAdd (outFlag m c) (constant (F := Ideal) S_ .f32 0x00000000#32)
    reducesTo_S8x1x1024_S_d0_1_2 h_S_) (constant (F := Ideal) S_ .f32 0x46000000#32) = resRate m c := by
  funext j
  pointwise
  simp only [Fin.sum_univ_one]
  rfl

/-- The lines after the region, read at the four results over any contents before them. -/
theorem tail7 (V : Valuation τ sig (Elt Ideal)) : StableHlo.after (List.flatten [hostOps1]) V (Proc.devRef .tc main_v7)
    = shapeCast S16x1024x512 (V (Proc.devRef .tc main_v6_0) : Vec Ideal S8x2x1024x512 .f32) shapeCasts_S8x2x1024x512_S16x1024x512 := by
  simp only [List.flatten_cons, List.flatten_nil, List.append_nil, hostOps1]
  after_results
  rfl
/-- The log-probabilities after the operations that follow the region. -/
theorem tail8 (V : Valuation τ sig (Elt Ideal)) : StableHlo.after (List.flatten [hostOps1]) V (Proc.devRef .tc main_v8)
    = shapeCast S16x1024 (V (Proc.devRef .tc main_v6_1) : Vec Ideal S8x2x1024 .f32) shapeCasts_S8x2x1024_S16x1024 := by
  simp only [List.flatten_cons, List.flatten_nil, List.append_nil, hostOps1]
  after_results
  rfl
/-- The gradients after the operations that follow the region. -/
theorem tail9 (V : Valuation τ sig (Elt Ideal)) : StableHlo.after (List.flatten [hostOps1]) V (Proc.devRef .tc main_v9)
    = shapeCast S16x1024x512 (V (Proc.devRef .tc main_v6_2) : Vec Ideal S8x2x1024x512 .f32) shapeCasts_S8x2x1024x512_S16x1024x512 := by
  simp only [List.flatten_cons, List.flatten_nil, List.append_nil, hostOps1]
  after_results
  rfl
/-- The accept share after the operations that follow the region. -/
theorem tail11 (V : Valuation τ sig (Elt Ideal)) : StableHlo.after (List.flatten [hostOps1]) V (Proc.devRef .tc main_v11)
    = Host.divf (Host.reduceAdd (V (Proc.devRef .tc main_v6_3) : Vec Ideal S8x1x1024 .f32) (constant (F := Ideal) S_ .f32 0x00000000#32)
        reducesTo_S8x1x1024_S_d0_1_2 h_S_) (constant (F := Ideal) S_ .f32 0x46000000#32) := by
  simp only [List.flatten_cons, List.flatten_nil, List.append_nil, hostOps1]
  after_results

/-- What the arrays and other buffers hold when the region ends. -/
abbrev ended (c : Dev nD) : Valuation τ sig (Elt Ideal) :=
  Pipeline.withArrays (cfgs 0).spec c (V0 m c) fun w => (dats m 0 c).arrAt w (cfgs 0).N

/-- The region ends with the new features in its first result. -/
theorem ended7 : (ended m c (Proc.devRef .tc main_v6_0) : Vec Ideal S8x2x1024x512 .f32) = outX m c :=
  (Pipeline.withArrays_arr spec0 launch0.win.arr_inj c (V0 m c) (fun w => (dats m 0 c).arrAt w cfg0.N) 7).trans (arr7 m c)
/-- The region ends with the new log-probabilities in its second result. -/
theorem ended8 : (ended m c (Proc.devRef .tc main_v6_1) : Vec Ideal S8x2x1024 .f32) = outLp m c :=
  (Pipeline.withArrays_arr spec0 launch0.win.arr_inj c (V0 m c) (fun w => (dats m 0 c).arrAt w cfg0.N) 8).trans (arr8 m c)
/-- The region ends with the new gradients in its third result. -/
theorem ended9 : (ended m c (Proc.devRef .tc main_v6_2) : Vec Ideal S8x2x1024x512 .f32) = outGrad m c :=
  (Pipeline.withArrays_arr spec0 launch0.win.arr_inj c (V0 m c) (fun w => (dats m 0 c).arrAt w cfg0.N) 9).trans (arr9 m c)
/-- The region ends with the accept flags in its fourth result. -/
theorem ended10 : (ended m c (Proc.devRef .tc main_v6_3) : Vec Ideal S8x1x1024 .f32) = outFlag m c :=
  (Pipeline.withArrays_arr spec0 launch0.win.arr_inj c (V0 m c) (fun w => (dats m 0 c).arrAt w cfg0.N) 10).trans (arr10 m c)

/-- The kernel program ends with its four results and its arguments as launched. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v7) = resX m c
      ∧ r.2.mem ((c.tc : Thread nD τ).loc main_v8) = resLp m c
      ∧ r.2.mem ((c.tc : Thread nD τ).loc main_v9) = resGrad m c
      ∧ r.2.mem ((c.tc : Thread nD τ).loc main_v11) = resRate m c) := by
  run_from run_main m g
  · exact (tail7 (ended m c)).trans (by rw [ended7]; exact byLevelX m c)
  · exact (tail8 (ended m c)).trans (by rw [ended8]; exact byLevelLp m c)
  · exact (tail9 (ended m c)).trans (by rw [ended9]; exact byLevelGrad m c)
  · exact (tail11 (ended m c)).trans (by rw [ended10]; exact meanFlag m c)

end Cert.Block

end
-- ==== Proof.Gradient.lean ====
/-
  The gradient of the log-probability in the two forms that the programs compute, and their equality.
-/
module

public import proofs.«01_k».proof.Proof.Spec

@[expose] public section

noncomputable section

namespace Cert.Swap

open Idealize.ShloMosaic

/-- The gradient as reverse differentiation writes it: the quadratic term's two halves, then the energy's term. -/
def rgrad (x : Fin 512 → EReal) (W : Fin 512 → Fin 2048 → EReal) (w : Fin 2048 → EReal) (τ : EReal) (d : Fin 512) : EReal :=
  (x d * (cHalf * Ideal.div (-1) (τ * τ)) + (cHalf * Ideal.div (-1) (τ * τ)) * x d)
    + ∑ h, (if 0 < hid x W h then -(Ideal.div 1 τ) * w h else 0) * W d h

/-- The raw gradients after the move, each at its own level's temperature. -/
def newRgrad (X : Fin 16 → Fin 1024 → Fin 512 → EReal) (T : Fin 16 → Fin 1024 → EReal) (u : Fin 8 → Fin 1024 → EReal)
    (W : Fin 512 → Fin 2048 → EReal) (w : Fin 2048 → EReal) (p : Fin 8) (l : Fin 2) (n : Fin 1024) (d : Fin 512) : EReal :=
  if Accept X T u W w p n then rgrad (X (lvl p (other l)) n) W w (temp (T (lvl p l) n)) d
  else rgrad (X (lvl p l) n) W w (temp (T (lvl p l) n)) d

/-- A finite sum of real numbers is the same sum among the extended reals. -/
theorem sum_real {n : Nat} (f : Fin n → ℝ) : (∑ h, ((f h : ℝ) : EReal)) = ((∑ h, f h : ℝ) : EReal) :=
  (map_sum (⟨⟨Real.toEReal, EReal.coe_zero⟩, EReal.coe_add⟩ : ℝ →+ EReal) f Finset.univ).symm

/-- The slope of real weights is real, and its multiple by a real factor can be taken inside the sum. -/
theorem slope_real (x : Fin 512 → EReal) (W : Fin 512 → Fin 2048 → EReal) (w : Fin 2048 → EReal) (d : Fin 512)
    (hW : ∀ h, ∃ a : ℝ, W d h = a) (hw : ∀ h, ∃ a : ℝ, w h = a) (r : ℝ) :
    ∃ s : ℝ, slope x W w d = s
      ∧ ∑ h, (if 0 < hid x W h then -(r : EReal) * w h else 0) * W d h = ((-r * s : ℝ) : EReal) := by
  choose a ha using hW
  choose b hb using hw
  refine ⟨∑ h, (if 0 < hid x W h then b h else 0) * a h, ?_, ?_⟩
  · unfold slope
    rw [← sum_real]
    refine Finset.sum_congr rfl fun h _ => ?_
    rw [ha, hb]
    split_ifs <;> simp
  · rw [Finset.mul_sum, ← sum_real]
    refine Finset.sum_congr rfl fun h _ => ?_
    rw [ha, hb]
    split_ifs
    · norm_cast
      ring_nf
    · simp

/-- The quotient of two real numbers, the divisor not zero. -/
theorem div_real (a t : ℝ) (ht : t ≠ 0) : Ideal.div (a : EReal) (t : EReal) = ((a * (1 / t) : ℝ) : EReal) := by
  rw [Ideal.div_coe ht, ← EReal.coe_mul]

/-- The two forms of the gradient agree where the weights are real and the temperature is not zero. -/
theorem grad_eq_rgrad (x : Fin 512 → EReal) (W : Fin 512 → Fin 2048 → EReal) (w : Fin 2048 → EReal) (τ : EReal) (d : Fin 512)
    (hW : ∀ h, ∃ a : ℝ, W d h = a) (hw : ∀ h, ∃ a : ℝ, w h = a) (hτ : τ ≠ 0) :
    grad (slope x W w d) (x d) τ = rgrad x W w τ d := by
  have far : ∀ a : EReal, Ideal.div a ⊤ = 0 ∧ Ideal.div a ⊥ = 0 := fun a => by
    constructor <;> simp [Ideal.div]
  unfold grad rgrad
  induction τ with
  | bot =>
    simp [(far _).1, (far _).2]
  | top =>
    simp [(far _).1, (far _).2]
  | coe t =>
    have ht : t ≠ 0 := fun h => hτ (by rw [h]; rfl)
    obtain ⟨s, hs, hsum⟩ := slope_real x W w d hW hw (1 * (1 / t))
    have e1 : Ideal.div 1 (t : EReal) = ((1 * (1 / t) : ℝ) : EReal) := div_real 1 t ht
    have e2 : cHalf * Ideal.div (-1) ((t : EReal) * (t : EReal)) = ((-(1 * (1 / t) * (1 * (1 / t))) / 2 : ℝ) : EReal) := by
      have : (-1 : EReal) = ((-1 : ℝ) : EReal) := by rw [EReal.coe_neg, EReal.coe_one]
      rw [this, ← EReal.coe_mul, div_real _ _ (mul_ne_zero ht ht), cHalf_eq, ← EReal.coe_mul]
      congr 1
      field_simp
    rw [e1, e2, hs, hsum]
    have hr : 1 * (1 / t) ≠ 0 := by rw [one_mul]; exact one_div_ne_zero ht
    have hpos : 0 < 1 * (1 / t) * (1 * (1 / t)) := mul_self_pos.2 hr
    have hneg : -(1 * (1 / t) * (1 * (1 / t))) / 2 < 0 := by linarith
    generalize 1 * (1 / t) = r at *
    generalize x d = v
    induction v with
    | bot =>
      rw [EReal.bot_mul_coe_of_neg hneg, EReal.coe_mul_bot_of_neg hneg, ← EReal.coe_neg]
      rcases lt_or_gt_of_ne hr with h | h
      · rw [EReal.bot_mul_coe_of_neg h]
        simp [EReal.top_mul_coe_of_pos (neg_pos.2 h), -EReal.coe_mul, -EReal.coe_neg]
      · rw [EReal.bot_mul_coe_of_pos h]
        simp [EReal.bot_mul_coe_of_neg (neg_lt_zero.2 h), -EReal.coe_mul, -EReal.coe_neg]
    | top =>
      rw [EReal.top_mul_coe_of_neg hneg, EReal.coe_mul_top_of_neg hneg, ← EReal.coe_neg]
      rcases lt_or_gt_of_ne hr with h | h
      · rw [EReal.top_mul_coe_of_neg h]
        simp [EReal.bot_mul_coe_of_pos (neg_pos.2 h), -EReal.coe_mul, -EReal.coe_neg]
      · rw [EReal.top_mul_coe_of_pos h]
        simp [EReal.top_mul_coe_of_neg (neg_lt_zero.2 h), -EReal.coe_mul, -EReal.coe_neg]
    | coe v =>
      norm_cast
      ring

/-- The new gradient in either form, where the weights are real and the level's temperature is not zero. -/
theorem newGrad_eq_newRgrad (X : Fin 16 → Fin 1024 → Fin 512 → EReal) (T : Fin 16 → Fin 1024 → EReal) (u : Fin 8 → Fin 1024 → EReal)
    (W : Fin 512 → Fin 2048 → EReal) (w : Fin 2048 → EReal) (hW : ∀ d h, ∃ a : ℝ, W d h = a) (hw : ∀ h, ∃ a : ℝ, w h = a)
    (hT : ∀ a n, temp (T a n) ≠ 0) (p : Fin 8) (l : Fin 2) (n : Fin 1024) (d : Fin 512) :
    newRgrad X T u W w p l n d = newGrad X T u W w p l n d := by
  unfold newGrad newRgrad newX
  split_ifs <;> exact (grad_eq_rgrad _ W w _ d (hW d) hw (hT _ _)).symm

end Cert.Swap

end
-- ==== Proof.RefRows.lean ====
/-
  The reference's first pass, over every level and chain, one row at a time: the log-probability and the raw gradient.
-/
module

public import proofs.«01_k».proof.Proof.Gen.ReferenceIdeal.Read
public import proofs.«01_k».proof.Proof.Gradient
public import Idealize.ShloMosaic.Lib.Pointwise

@[expose] public section

set_option maxRecDepth 16384

noncomputable section

namespace Cert.Ref

open Cert.ReferenceIdeal Cert.ReferenceIdeal.Gen Cert.ReferenceIdeal.Read Cert.Swap Idealize.ShloMosaic

variable (x0 : Vec Ideal S16x1024x512 .f32) (x1 : Vec Ideal S16x1024x1 .f32)
  (x3 : Vec Ideal S512x2048 .f32) (x4 x5 : Vec Ideal S2048 .f32)

/-- The first weights. -/
abbrev matR (d : Fin 512) (h : Fin 2048) : EReal := x3 (ix2 d h)
/-- The second weights. -/
abbrev vecR (h : Fin 2048) : EReal := x5 (ix1 h)

/-- A row of the features in the first pass. -/
abbrev rowA (r : Fin 16384) (d : Fin 512) : EReal := val_main_v0 (F := Ideal) x0 (ix2 r d)
/-- A row's time in the first pass. -/
abbrev timeA (r : Fin 16384) : EReal := val_main_v2 (F := Ideal) x1 (ix1 r)

/-- A row's log-probability in the first pass. -/
theorem lpA (h4 : ∀ h, x4 (ix1 h) = 0) (r : Fin 16384) :
    val_main_v27 (F := Ideal) x0 x1 x3 x4 x5 (ix1 r) = lp (rowA x0 r) (matR x3) (vecR x5) (temp (timeA x1 r)) := by
  unfold rowA timeA
  generalize hy0 : val_main_v0 (F := Ideal) x0 = y0
  generalize hy2 : val_main_v2 (F := Ideal) x1 = y2
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_cst, val_main_cst_0, val_main_cst_1, val_main_cst_2, val_main_cst_3, val_main_cst_4, val_main_cst_5, val_main_call0_cst, val_main_call0_v0, hy0, hy2]
  simp only [h4, add_zero, zero_add, Ideal.ofBits_zero_f32, max_zero]
  rfl

/-- A row's raw gradient in the first pass. -/
theorem gradA (h4 : ∀ h, x4 (ix1 h) = 0) (r : Fin 16384) (d : Fin 512) :
    val_main_v45 (F := Ideal) x0 x1 x3 x4 x5 (ix2 r d)
      = rgrad (rowA x0 r) (matR x3) (vecR x5) (temp (timeA x1 r)) d := by
  unfold rowA timeA
  generalize hy0 : val_main_v0 (F := Ideal) x0 = y0
  generalize hy2 : val_main_v2 (F := Ideal) x1 = y2
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_v25, val_main_v15, val_main_v13, val_main_v12, val_main_v10, val_main_v9, val_main_v8, val_main_v7, val_main_v6, val_main_v5, val_main_v4, val_main_v3, val_main_cst, val_main_cst_0, val_main_cst_1, val_main_cst_2, val_main_cst_3, val_main_cst_4, val_main_cst_5, val_main_cst_6, val_main_cst_7, val_main_cst_8, hy0, hy2]
  simp only [h4, add_zero]
  rfl

end Cert.Ref

end
-- ==== Proof.RefCross.lean ====
/-
  The reference's two crossed passes, each over the chains of the pairs, one row at a time: the log-probability and the raw
  gradient.
-/
module

public import proofs.«01_k».proof.Proof.Gen.ReferenceIdeal.Read
public import proofs.«01_k».proof.Proof.RefRows
public import Idealize.ShloMosaic.Lib.Pointwise

@[expose] public section

set_option maxRecDepth 16384

noncomputable section

namespace Cert.Ref

open Cert.ReferenceIdeal Cert.ReferenceIdeal.Gen Cert.ReferenceIdeal.Read Cert.Swap Idealize.ShloMosaic

variable (x0 : Vec Ideal S16x1024x512 .f32) (x1 : Vec Ideal S16x1024x1 .f32)
  (x3 : Vec Ideal S512x2048 .f32) (x4 x5 : Vec Ideal S2048 .f32)

/-- A row of the features in the first crossed pass. -/
abbrev rowB (r : Fin 8192) (d : Fin 512) : EReal := val_main_v114 (F := Ideal) x0 (ix2 r d)
/-- A row's time in the first crossed pass. -/
abbrev timeB (r : Fin 8192) : EReal := val_main_v115 (F := Ideal) x1 (ix1 r)

/-- A row's log-probability in the first crossed pass. -/
theorem lpB (h4 : ∀ h, x4 (ix1 h) = 0) (r : Fin 8192) :
    val_main_v140 (F := Ideal) x0 x1 x3 x4 x5 (ix1 r) = lp (rowB x0 r) (matR x3) (vecR x5) (temp (timeB x1 r)) := by
  unfold rowB timeB
  generalize hy0 : val_main_v114 (F := Ideal) x0 = y0
  generalize hy2 : val_main_v115 (F := Ideal) x1 = y2
  pointwise [val_main_v140, val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_cst_27, val_main_cst_28, val_main_cst_29, val_main_cst_30, val_main_cst_31, val_main_cst_32, val_main_cst_33, val_main_call1_cst, val_main_call1_v0, hy0, hy2]
  simp only [h4, add_zero, zero_add, Ideal.ofBits_zero_f32, max_zero]
  rfl

/-- A row's raw gradient in the first crossed pass. -/
theorem gradB (h4 : ∀ h, x4 (ix1 h) = 0) (r : Fin 8192) (d : Fin 512) :
    val_main_v158 (F := Ideal) x0 x1 x3 x4 x5 (ix2 r d)
      = rgrad (rowB x0 r) (matR x3) (vecR x5) (temp (timeB x1 r)) d := by
  unfold rowB timeB
  generalize hy0 : val_main_v114 (F := Ideal) x0 = y0
  generalize hy2 : val_main_v115 (F := Ideal) x1 = y2
  pointwise [val_main_v158, val_main_v157, val_main_v156, val_main_v155, val_main_v154, val_main_v153, val_main_v152, val_main_v151, val_main_v150, val_main_v149, val_main_v148, val_main_v147, val_main_v146, val_main_v145, val_main_v144, val_main_v143, val_main_v142, val_main_v141, val_main_v138, val_main_v128, val_main_v126, val_main_v125, val_main_v123, val_main_v122, val_main_v121, val_main_v120, val_main_v119, val_main_v118, val_main_v117, val_main_v116, val_main_cst_27, val_main_cst_28, val_main_cst_29, val_main_cst_30, val_main_cst_31, val_main_cst_32, val_main_cst_33, val_main_cst_34, val_main_cst_35, val_main_cst_36, hy0, hy2]
  simp only [h4, add_zero]
  rfl

/-- A row of the features in the second crossed pass. -/
abbrev rowC (r : Fin 8192) (d : Fin 512) : EReal := val_main_v106 (F := Ideal) x0 (ix2 r d)
/-- A row's time in the second crossed pass. -/
abbrev timeC (r : Fin 8192) : EReal := val_main_v159 (F := Ideal) x1 (ix1 r)

/-- A row's log-probability in the second crossed pass. -/
theorem lpC (h4 : ∀ h, x4 (ix1 h) = 0) (r : Fin 8192) :
    val_main_v184 (F := Ideal) x0 x1 x3 x4 x5 (ix1 r) = lp (rowC x0 r) (matR x3) (vecR x5) (temp (timeC x1 r)) := by
  unfold rowC timeC
  generalize hy0 : val_main_v106 (F := Ideal) x0 = y0
  generalize hy2 : val_main_v159 (F := Ideal) x1 = y2
  pointwise [val_main_v184, val_main_v183, val_main_v182, val_main_v181, val_main_v180, val_main_v179, val_main_v178, val_main_v177, val_main_v176, val_main_v175, val_main_v174, val_main_v173, val_main_v172, val_main_v171, val_main_v170, val_main_v169, val_main_v168, val_main_v167, val_main_v166, val_main_v165, val_main_v164, val_main_v163, val_main_v162, val_main_v161, val_main_v160, val_main_cst_37, val_main_cst_38, val_main_cst_39, val_main_cst_40, val_main_cst_41, val_main_cst_42, val_main_cst_43, val_main_call2_cst, val_main_call2_v0, hy0, hy2]
  simp only [h4, add_zero, zero_add, Ideal.ofBits_zero_f32, max_zero]
  rfl

/-- A row's raw gradient in the second crossed pass. -/
theorem gradC (h4 : ∀ h, x4 (ix1 h) = 0) (r : Fin 8192) (d : Fin 512) :
    val_main_v202 (F := Ideal) x0 x1 x3 x4 x5 (ix2 r d)
      = rgrad (rowC x0 r) (matR x3) (vecR x5) (temp (timeC x1 r)) d := by
  unfold rowC timeC
  generalize hy0 : val_main_v106 (F := Ideal) x0 = y0
  generalize hy2 : val_main_v159 (F := Ideal) x1 = y2
  pointwise [val_main_v202, val_main_v201, val_main_v200, val_main_v199, val_main_v198, val_main_v197, val_main_v196, val_main_v195, val_main_v194, val_main_v193, val_main_v192, val_main_v191, val_main_v190, val_main_v189, val_main_v188, val_main_v187, val_main_v186, val_main_v185, val_main_v182, val_main_v172, val_main_v170, val_main_v169, val_main_v167, val_main_v166, val_main_v165, val_main_v164, val_main_v163, val_main_v162, val_main_v161, val_main_v160, val_main_cst_37, val_main_cst_38, val_main_cst_39, val_main_cst_40, val_main_cst_41, val_main_cst_42, val_main_cst_43, val_main_cst_44, val_main_cst_45, val_main_cst_46, hy0, hy2]
  simp only [h4, add_zero]
  rfl

end Cert.Ref

end
-- ==== Proof.Levels.lean ====
/-
  Picking levels out of an array and putting levels back into it, read at an index: which level an operation touches is
  given by a vector of eight level numbers.
-/
module

public import proofs.«01_k».proof.Proof.Gen.ReferenceIdeal
public import Idealize.ShloMosaic.Lib.Pointwise
public import Idealize.ShloMosaic.Lib.Routing.OpsSet

@[expose] public section

set_option maxRecDepth 16384

noncomputable section

namespace Cert.Ref

open Cert.ReferenceIdeal Cert.ReferenceIdeal.Gen Idealize.ShloMosaic

variable {α : Type}

/-- The vector of level numbers names the levels `f`. -/
def Names (idx : IVec S8x1 32) (f : Fin 8 → Fin 16) : Prop := ∀ p : Fin 8, (idx (ix2 p 0)).toInt = (f p).val

/-- A level number is not clamped. -/
theorem Names.clamp {idx : IVec S8x1 32} {f : Fin 8 → Fin 16} (h : Names idx f) (p : Fin 8) :
    min (idx (ix2 p 0)).toInt.toNat (16 - 1) = (f p).val := by
  rw [h p]; have := (f p).isLt; omega

/-- The picked levels of a number per chain. -/
theorem gatherG2 (x : S16x1024.Idx → α) (idx : IVec S8x1 32) (f : Fin 8 → Fin 16) (h : Names idx f) (p : Fin 8) (n : Fin 1024) :
    Host.gather gather_S16x1024_S8x1_S8x1024_1_0_n_n_0_1_11024 x idx (ix2 p n) = x (ix2 (f p) n) := by
  unfold Host.gather
  congr 1
  funext a
  refine Fin.ext ?_
  match a with
  | ⟨0, _⟩ =>
    show gather_S16x1024_S8x1_S8x1024_1_0_n_n_0_1_11024.start (ix2 p n) idx 0 + gather_S16x1024_S8x1_S8x1024_1_0_n_n_0_1_11024.batchCoord (ix2 p n) 0 + gather_S16x1024_S8x1_S8x1024_1_0_n_n_0_1_11024.offCoord (ix2 p n) 0 = (f p).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S16x1024_S8x1_S8x1024_1_0_n_n_0_1_11024.startIndexMap from List.mem_singleton.mpr rfl)]
    have hsi : gather_S16x1024_S8x1_S8x1024_1_0_n_n_0_1_11024.siIdx (ix2 p n) ⟨List.idxOf (0 : Fin 2) gather_S16x1024_S8x1_S8x1024_1_0_n_n_0_1_11024.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    exact h.clamp p
  | ⟨1, _⟩ =>
    show gather_S16x1024_S8x1_S8x1024_1_0_n_n_0_1_11024.start (ix2 p n) idx 1 + gather_S16x1024_S8x1_S8x1024_1_0_n_n_0_1_11024.batchCoord (ix2 p n) 1 + gather_S16x1024_S8x1_S8x1024_1_0_n_n_0_1_11024.offCoord (ix2 p n) 1 = n.val
    rw [GatherDims.batchCoord_eq_zero _ _ _ List.not_mem_nil]
    unfold GatherDims.start
    rw [dif_neg (show (1 : Fin 2) ∉ gather_S16x1024_S8x1_S8x1024_1_0_n_n_0_1_11024.startIndexMap from by decide)]
    simp only [Nat.add_zero, Nat.zero_add]
    rfl

/-- The picked levels of a row per chain. -/
theorem gatherG3 (x : S16x1024x512.Idx → α) (idx : IVec S8x1 32) (f : Fin 8 → Fin 16) (h : Names idx f) (p : Fin 8) (n : Fin 1024) (d : Fin 512) :
    Host.gather gather_S16x1024x512_S8x1_S8x1024x512_12_0_n_n_0_1_11024512 x idx (ix3 p n d) = x (ix3 (f p) n d) := by
  unfold Host.gather
  congr 1
  funext a
  refine Fin.ext ?_
  match a with
  | ⟨0, _⟩ =>
    show gather_S16x1024x512_S8x1_S8x1024x512_12_0_n_n_0_1_11024512.start (ix3 p n d) idx 0 + gather_S16x1024x512_S8x1_S8x1024x512_12_0_n_n_0_1_11024512.batchCoord (ix3 p n d) 0 + gather_S16x1024x512_S8x1_S8x1024x512_12_0_n_n_0_1_11024512.offCoord (ix3 p n d) 0 = (f p).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x1024x512_S8x1_S8x1024x512_12_0_n_n_0_1_11024512.startIndexMap from List.mem_singleton.mpr rfl)]
    have hsi : gather_S16x1024x512_S8x1_S8x1024x512_12_0_n_n_0_1_11024512.siIdx (ix3 p n d) ⟨List.idxOf (0 : Fin 3) gather_S16x1024x512_S8x1_S8x1024x512_12_0_n_n_0_1_11024512.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    exact h.clamp p
  | ⟨1, _⟩ =>
    show gather_S16x1024x512_S8x1_S8x1024x512_12_0_n_n_0_1_11024512.start (ix3 p n d) idx 1 + gather_S16x1024x512_S8x1_S8x1024x512_12_0_n_n_0_1_11024512.batchCoord (ix3 p n d) 1 + gather_S16x1024x512_S8x1_S8x1024x512_12_0_n_n_0_1_11024512.offCoord (ix3 p n d) 1 = n.val
    rw [GatherDims.batchCoord_eq_zero _ _ _ List.not_mem_nil]
    unfold GatherDims.start
    rw [dif_neg (show (1 : Fin 3) ∉ gather_S16x1024x512_S8x1_S8x1024x512_12_0_n_n_0_1_11024512.startIndexMap from by decide)]
    simp only [Nat.add_zero, Nat.zero_add]
    rfl
  | ⟨2, _⟩ =>
    show gather_S16x1024x512_S8x1_S8x1024x512_12_0_n_n_0_1_11024512.start (ix3 p n d) idx 2 + gather_S16x1024x512_S8x1_S8x1024x512_12_0_n_n_0_1_11024512.batchCoord (ix3 p n d) 2 + gather_S16x1024x512_S8x1_S8x1024x512_12_0_n_n_0_1_11024512.offCoord (ix3 p n d) 2 = d.val
    rw [GatherDims.batchCoord_eq_zero _ _ _ List.not_mem_nil]
    unfold GatherDims.start
    rw [dif_neg (show (2 : Fin 3) ∉ gather_S16x1024x512_S8x1_S8x1024x512_12_0_n_n_0_1_11024512.startIndexMap from by decide)]
    simp only [Nat.add_zero, Nat.zero_add]
    rfl

/-- The picked levels of a column of numbers per chain. -/
theorem gatherG1 (x : S16x1024x1.Idx → α) (idx : IVec S8x1 32) (f : Fin 8 → Fin 16) (h : Names idx f) (p : Fin 8) (n : Fin 1024) (d : Fin 1) :
    Host.gather gather_S16x1024x1_S8x1_S8x1024x1_12_0_n_n_0_1_110241 x idx (ix3 p n d) = x (ix3 (f p) n d) := by
  unfold Host.gather
  congr 1
  funext a
  refine Fin.ext ?_
  match a with
  | ⟨0, _⟩ =>
    show gather_S16x1024x1_S8x1_S8x1024x1_12_0_n_n_0_1_110241.start (ix3 p n d) idx 0 + gather_S16x1024x1_S8x1_S8x1024x1_12_0_n_n_0_1_110241.batchCoord (ix3 p n d) 0 + gather_S16x1024x1_S8x1_S8x1024x1_12_0_n_n_0_1_110241.offCoord (ix3 p n d) 0 = (f p).val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 3) ∈ gather_S16x1024x1_S8x1_S8x1024x1_12_0_n_n_0_1_110241.startIndexMap from List.mem_singleton.mpr rfl)]
    have hsi : gather_S16x1024x1_S8x1_S8x1024x1_12_0_n_n_0_1_110241.siIdx (ix3 p n d) ⟨List.idxOf (0 : Fin 3) gather_S16x1024x1_S8x1_S8x1024x1_12_0_n_n_0_1_110241.startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    exact h.clamp p
  | ⟨1, _⟩ =>
    show gather_S16x1024x1_S8x1_S8x1024x1_12_0_n_n_0_1_110241.start (ix3 p n d) idx 1 + gather_S16x1024x1_S8x1_S8x1024x1_12_0_n_n_0_1_110241.batchCoord (ix3 p n d) 1 + gather_S16x1024x1_S8x1_S8x1024x1_12_0_n_n_0_1_110241.offCoord (ix3 p n d) 1 = n.val
    rw [GatherDims.batchCoord_eq_zero _ _ _ List.not_mem_nil]
    unfold GatherDims.start
    rw [dif_neg (show (1 : Fin 3) ∉ gather_S16x1024x1_S8x1_S8x1024x1_12_0_n_n_0_1_110241.startIndexMap from by decide)]
    simp only [Nat.add_zero, Nat.zero_add]
    rfl
  | ⟨2, _⟩ =>
    show gather_S16x1024x1_S8x1_S8x1024x1_12_0_n_n_0_1_110241.start (ix3 p n d) idx 2 + gather_S16x1024x1_S8x1_S8x1024x1_12_0_n_n_0_1_110241.batchCoord (ix3 p n d) 2 + gather_S16x1024x1_S8x1_S8x1024x1_12_0_n_n_0_1_110241.offCoord (ix3 p n d) 2 = d.val
    rw [GatherDims.batchCoord_eq_zero _ _ _ List.not_mem_nil]
    unfold GatherDims.start
    rw [dif_neg (show (2 : Fin 3) ∉ gather_S16x1024x1_S8x1_S8x1024x1_12_0_n_n_0_1_110241.startIndexMap from by decide)]
    simp only [Nat.add_zero, Nat.zero_add]
    rfl

/-- Where an update of a level lands, axis by axis. -/
theorem coordP2 (idx : IVec S8x1 32) (f : Fin 8 → Fin 16) (h : Names idx f) (p : Fin 8) (n : Fin 1024) (a : Fin 2) :
    scatter_S16x1024_S8x1_S8x1024_1_0_0_1.start (ix2 p n) idx a + (scatter_S16x1024_S8x1_S8x1024_1_0_0_1.window (ix2 p n) a : Int) = ((ix2 (f p) n : S16x1024.Idx) a).val := by
  match a with
  | ⟨0, _⟩ =>
    show scatter_S16x1024_S8x1_S8x1024_1_0_0_1.start (ix2 p n) idx 0 + (scatter_S16x1024_S8x1_S8x1024_1_0_0_1.window (ix2 p n) 0 : Int) = ((f p).val : Int)
    unfold ScatterDims.start
    rw [dif_pos (show (0 : Fin 2) ∈ scatter_S16x1024_S8x1_S8x1024_1_0_0_1.scatterDimsToOperandDims from List.mem_singleton.mpr rfl)]
    have hsi : scatter_S16x1024_S8x1_S8x1024_1_0_0_1.siIdx (ix2 p n) ⟨List.idxOf (0 : Fin 2) scatter_S16x1024_S8x1_S8x1024_1_0_0_1.scatterDimsToOperandDims,
        List.idxOf_lt_length_iff.2 (List.mem_singleton.mpr rfl)⟩ = ix2 p 0 := by
      funext b; refine Fin.ext ?_
      match b with
      | ⟨0, _⟩ => rfl
      | ⟨1, _⟩ => rfl
    rw [hsi, h p, show scatter_S16x1024_S8x1_S8x1024_1_0_0_1.window (ix2 p n) 0 = 0 from rfl]
    omega
  | ⟨1, _⟩ =>
    show scatter_S16x1024_S8x1_S8x1024_1_0_0_1.start (ix2 p n) idx 1 + (scatter_S16x1024_S8x1_S8x1024_1_0_0_1.window (ix2 p n) 1 : Int) = (n.val : Int)
    unfold ScatterDims.start
    rw [dif_neg (show (1 : Fin 2) ∉ scatter_S16x1024_S8x1_S8x1024_1_0_0_1.scatterDimsToOperandDims from by decide)]
    rw [show scatter_S16x1024_S8x1_S8x1024_1_0_0_1.window (ix2 p n) 1 = n.val from rfl]
    omega

/-- An update of a level lands on the level it names. -/
theorem landsP2 (idx : IVec S8x1 32) (f : Fin 8 → Fin 16) (h : Names idx f) (p : Fin 8) (n : Fin 1024) :
    scatter_S16x1024_S8x1_S8x1024_1_0_0_1.resultIdx? (ix2 p n) idx = some (ix2 (f p) n) := by
  unfold ScatterDims.resultIdx?
  rw [dif_pos (fun a => by
    have e := coordP2 idx f h p n a
    have l : ((ix2 (f p) n : S16x1024.Idx) a).val < S16x1024.size a := ((ix2 (f p) n : S16x1024.Idx) a).isLt
    exact ⟨by omega, by rw [e]; exact_mod_cast l⟩)]
  refine congrArg some (funext fun a => Fin.ext ?_)
  have e := coordP2 idx f h p n a
  show (scatter_S16x1024_S8x1_S8x1024_1_0_0_1.start (ix2 p n) idx a + (scatter_S16x1024_S8x1_S8x1024_1_0_0_1.window (ix2 p n) a : Int)).toNat = _
  omega

/-- A level that was put back holds its update. -/
theorem scatterP2_hit (x0 : S16x1024.Idx → α) (idx : IVec S8x1 32) (upd : S8x1024.Idx → α) (f : Fin 8 → Fin 16) (h : Names idx f)
    (hf : Function.Injective f) (p : Fin 8) (n : Fin 1024) :
    Host.scatter scatter_S16x1024_S8x1_S8x1024_1_0_0_1 (fun _ b => b) x0 idx upd (ix2 (f p) n) = upd (ix2 p n) := by
  refine Routing.scatter_set_hit scatter_S16x1024_S8x1_S8x1024_1_0_0_1 x0 idx upd _ _ (fun k hk => ?_) (ix2 p n) (landsP2 idx f h p n)
  idx_vars k
  rw [landsP2 idx f h] at hk
  have e := Option.some.inj hk
  obtain ⟨h0, h1⟩ := (ix2_inj ..).1 e
  rw [hf h0, h1]

/-- A level that was not put back is as before. -/
theorem scatterP2_miss (x0 : S16x1024.Idx → α) (idx : IVec S8x1 32) (upd : S8x1024.Idx → α) (f : Fin 8 → Fin 16) (h : Names idx f)
    (q : Fin 16) (hq : ∀ p, f p ≠ q) (n : Fin 1024) :
    Host.scatter scatter_S16x1024_S8x1_S8x1024_1_0_0_1 (fun _ b => b) x0 idx upd (ix2 q n) = x0 (ix2 q n) := by
  refine Routing.scatter_set_miss scatter_S16x1024_S8x1_S8x1024_1_0_0_1 x0 idx upd _ fun k hk => ?_
  idx_vars k
  rw [landsP2 idx f h] at hk
  have e := Option.some.inj hk
  exact hq _ ((ix2_inj ..).1 e).1

/-- Where an update of a level lands, axis by axis. -/
theorem coordP3 (idx : IVec S8x1 32) (f : Fin 8 → Fin 16) (h : Names idx f) (p : Fin 8) (n : Fin 1024) (d : Fin 512) (a : Fin 3) :
    scatter_S16x1024x512_S8x1_S8x1024x512_12_0_0_1.start (ix3 p n d) idx a + (scatter_S16x1024x512_S8x1_S8x1024x512_12_0_0_1.window (ix3 p n d) a : Int) = ((ix3 (f p) n d : S16x1024x512.Idx) a).val := by
  match a with
  | ⟨0, _⟩ =>
    show scatter_S16x1024x512_S8x1_S8x1024x512_12_0_0_1.start (ix3 p n d) idx 0 + (scatter_S16x1024x512_S8x1_S8x1024x512_12_0_0_1.window (ix3 p n d) 0 : Int) = ((f p).val : Int)
    unfold ScatterDims.start
    rw [dif_pos (show (0 : Fin 3) ∈ scatter_S16x1024x512_S8x1_S8x1024x512_12_0_0_1.scatterDimsToOperandDims from List.mem_singleton.mpr rfl)]
    have hsi : scatter_S16x1024x512_S8x1_S8x1024x512_12_0_0_1.siIdx (ix3 p n d) ⟨List.idxOf (0 : Fin 3) scatter_S16x1024x512_S8x1_S8x1024x512_12_0_0_1.scatterDimsToOperandDims,
        List.idxOf_lt_length_iff.2 (List.mem_singleton.mpr rfl)⟩ = ix2 p 0 := by
      funext b; refine Fin.ext ?_
      match b with
      | ⟨0, _⟩ => rfl
      | ⟨1, _⟩ => rfl
    rw [hsi, h p, show scatter_S16x1024x512_S8x1_S8x1024x512_12_0_0_1.window (ix3 p n d) 0 = 0 from rfl]
    omega
  | ⟨1, _⟩ =>
    show scatter_S16x1024x512_S8x1_S8x1024x512_12_0_0_1.start (ix3 p n d) idx 1 + (scatter_S16x1024x512_S8x1_S8x1024x512_12_0_0_1.window (ix3 p n d) 1 : Int) = (n.val : Int)
    unfold ScatterDims.start
    rw [dif_neg (show (1 : Fin 3) ∉ scatter_S16x1024x512_S8x1_S8x1024x512_12_0_0_1.scatterDimsToOperandDims from by decide)]
    rw [show scatter_S16x1024x512_S8x1_S8x1024x512_12_0_0_1.window (ix3 p n d) 1 = n.val from rfl]
    omega
  | ⟨2, _⟩ =>
    show scatter_S16x1024x512_S8x1_S8x1024x512_12_0_0_1.start (ix3 p n d) idx 2 + (scatter_S16x1024x512_S8x1_S8x1024x512_12_0_0_1.window (ix3 p n d) 2 : Int) = (d.val : Int)
    unfold ScatterDims.start
    rw [dif_neg (show (2 : Fin 3) ∉ scatter_S16x1024x512_S8x1_S8x1024x512_12_0_0_1.scatterDimsToOperandDims from by decide)]
    rw [show scatter_S16x1024x512_S8x1_S8x1024x512_12_0_0_1.window (ix3 p n d) 2 = d.val from rfl]
    omega

/-- An update of a level lands on the level it names. -/
theorem landsP3 (idx : IVec S8x1 32) (f : Fin 8 → Fin 16) (h : Names idx f) (p : Fin 8) (n : Fin 1024) (d : Fin 512) :
    scatter_S16x1024x512_S8x1_S8x1024x512_12_0_0_1.resultIdx? (ix3 p n d) idx = some (ix3 (f p) n d) := by
  unfold ScatterDims.resultIdx?
  rw [dif_pos (fun a => by
    have e := coordP3 idx f h p n d a
    have l : ((ix3 (f p) n d : S16x1024x512.Idx) a).val < S16x1024x512.size a := ((ix3 (f p) n d : S16x1024x512.Idx) a).isLt
    exact ⟨by omega, by rw [e]; exact_mod_cast l⟩)]
  refine congrArg some (funext fun a => Fin.ext ?_)
  have e := coordP3 idx f h p n d a
  show (scatter_S16x1024x512_S8x1_S8x1024x512_12_0_0_1.start (ix3 p n d) idx a + (scatter_S16x1024x512_S8x1_S8x1024x512_12_0_0_1.window (ix3 p n d) a : Int)).toNat = _
  omega

/-- A level that was put back holds its update. -/
theorem scatterP3_hit (x0 : S16x1024x512.Idx → α) (idx : IVec S8x1 32) (upd : S8x1024x512.Idx → α) (f : Fin 8 → Fin 16) (h : Names idx f)
    (hf : Function.Injective f) (p : Fin 8) (n : Fin 1024) (d : Fin 512) :
    Host.scatter scatter_S16x1024x512_S8x1_S8x1024x512_12_0_0_1 (fun _ b => b) x0 idx upd (ix3 (f p) n d) = upd (ix3 p n d) := by
  refine Routing.scatter_set_hit scatter_S16x1024x512_S8x1_S8x1024x512_12_0_0_1 x0 idx upd _ _ (fun k hk => ?_) (ix3 p n d) (landsP3 idx f h p n d)
  idx_vars k
  rw [landsP3 idx f h] at hk
  have e := Option.some.inj hk
  obtain ⟨h0, h1, h2⟩ := (ix3_inj ..).1 e
  rw [hf h0, h1, h2]

/-- A level that was not put back is as before. -/
theorem scatterP3_miss (x0 : S16x1024x512.Idx → α) (idx : IVec S8x1 32) (upd : S8x1024x512.Idx → α) (f : Fin 8 → Fin 16) (h : Names idx f)
    (q : Fin 16) (hq : ∀ p, f p ≠ q) (n : Fin 1024) (d : Fin 512) :
    Host.scatter scatter_S16x1024x512_S8x1_S8x1024x512_12_0_0_1 (fun _ b => b) x0 idx upd (ix3 q n d) = x0 (ix3 q n d) := by
  refine Routing.scatter_set_miss scatter_S16x1024x512_S8x1_S8x1024x512_12_0_0_1 x0 idx upd _ fun k hk => ?_
  idx_vars k
  rw [landsP3 idx f h] at hk
  have e := Option.some.inj hk
  exact hq _ ((ix3_inj ..).1 e).1

end Cert.Ref

end
-- ==== Proof.Vectors.lean ====
/-
  The vectors of level numbers that the reference picks and puts back by: the even levels, and the odd ones.
-/
module

public import proofs.«01_k».proof.Proof.Gen.ReferenceIdeal.Read
public import proofs.«01_k».proof.Proof.Levels
public import proofs.«01_k».proof.Proof.Spec

@[expose] public section

set_option maxRecDepth 16384

noncomputable section

namespace Cert.Ref

open Cert.ReferenceIdeal Cert.ReferenceIdeal.Gen Cert.ReferenceIdeal.Read Cert.Swap Idealize.ShloMosaic

/-- The even level of a pair. -/
abbrev ev (p : Fin 8) : Fin 16 := lvl p 0
/-- The odd level of a pair. -/
abbrev od (p : Fin 8) : Fin 16 := lvl p 1

/-- Pairs have different even levels. -/
theorem ev_inj : Function.Injective ev := by decide
/-- Pairs have different odd levels. -/
theorem od_inj : Function.Injective od := by decide

/-- This vector names the even levels. -/
theorem names60 : Names (val_main_v60 (F := Ideal)) ev := by
  intro p
  pointwise [val_main_v60, val_main_v59, val_main_v56, val_main_v52, val_main_v51, val_main_c_9, val_main_v50, val_main_v49, val_main_c, val_main_v48, val_main_v55, val_main_c_11, val_main_v58, val_main_v57, val_main_c_12]
  revert p
  decide

/-- This vector names the even levels. -/
theorem names74 : Names (val_main_v74 (F := Ideal)) ev := by
  intro p
  pointwise [val_main_v74, val_main_v73, val_main_v70, val_main_v52, val_main_v51, val_main_c_9, val_main_v50, val_main_v49, val_main_c, val_main_v48, val_main_v69, val_main_c_15, val_main_v72, val_main_v71, val_main_c_16]
  revert p
  decide

/-- This vector names the even levels. -/
theorem names88 : Names (val_main_v88 (F := Ideal)) ev := by
  intro p
  pointwise [val_main_v88, val_main_v87, val_main_v84, val_main_v52, val_main_v51, val_main_c_9, val_main_v50, val_main_v49, val_main_c, val_main_v48, val_main_v83, val_main_c_19, val_main_v86, val_main_v85, val_main_c_20]
  revert p
  decide

/-- This vector names the even levels. -/
theorem names104 : Names (val_main_v104 (F := Ideal)) ev := by
  intro p
  pointwise [val_main_v104, val_main_v103, val_main_v100, val_main_v52, val_main_v51, val_main_c_9, val_main_v50, val_main_v49, val_main_c, val_main_v48, val_main_v99, val_main_c_23, val_main_v102, val_main_v101, val_main_c_24]
  revert p
  decide

/-- This vector names the even levels. -/
theorem names222 : Names (val_main_v222 (F := Ideal)) ev := by
  intro p
  pointwise [val_main_v222, val_main_v221, val_main_v218, val_main_v52, val_main_v51, val_main_c_9, val_main_v50, val_main_v49, val_main_c, val_main_v48, val_main_v217, val_main_c_49, val_main_v220, val_main_v219, val_main_c_50]
  revert p
  decide

/-- This vector names the even levels. -/
theorem names244 : Names (val_main_v244 (F := Ideal)) ev := by
  intro p
  pointwise [val_main_v244, val_main_v243, val_main_v240, val_main_v52, val_main_v51, val_main_c_9, val_main_v50, val_main_v49, val_main_c, val_main_v48, val_main_v239, val_main_c_55, val_main_v242, val_main_v241, val_main_c_56]
  revert p
  decide

/-- This vector names the even levels. -/
theorem names252 : Names (val_main_v252 (F := Ideal)) ev := by
  intro p
  pointwise [val_main_v252, val_main_v251, val_main_v248, val_main_v52, val_main_v51, val_main_c_9, val_main_v50, val_main_v49, val_main_c, val_main_v48, val_main_v247, val_main_c_57, val_main_v250, val_main_v249, val_main_c_58]
  revert p
  decide

/-- This vector names the even levels. -/
theorem names259 : Names (val_main_v259 (F := Ideal)) ev := by
  intro p
  pointwise [val_main_v259, val_main_v258, val_main_v255, val_main_v52, val_main_v51, val_main_c_9, val_main_v50, val_main_v49, val_main_c, val_main_v48, val_main_v254, val_main_c_59, val_main_v257, val_main_v256, val_main_c_60]
  revert p
  decide

/-- This vector names the even levels. -/
theorem names282 : Names (val_main_v282 (F := Ideal)) ev := by
  intro p
  pointwise [val_main_v282, val_main_v281, val_main_v278, val_main_v52, val_main_v51, val_main_c_9, val_main_v50, val_main_v49, val_main_c, val_main_v48, val_main_v277, val_main_c_65, val_main_v280, val_main_v279, val_main_c_66]
  revert p
  decide

/-- This vector names the odd levels. -/
theorem names67 : Names (val_main_v67 (F := Ideal)) od := by
  intro p
  pointwise [val_main_v67, val_main_v66, val_main_v63, val_main_v54, val_main_v52, val_main_v51, val_main_c_9, val_main_v50, val_main_v49, val_main_c, val_main_v48, val_main_v53, val_main_c_10, val_main_v62, val_main_c_13, val_main_v65, val_main_v64, val_main_c_14]
  revert p
  decide

/-- This vector names the odd levels. -/
theorem names81 : Names (val_main_v81 (F := Ideal)) od := by
  intro p
  pointwise [val_main_v81, val_main_v80, val_main_v77, val_main_v54, val_main_v52, val_main_v51, val_main_c_9, val_main_v50, val_main_v49, val_main_c, val_main_v48, val_main_v53, val_main_c_10, val_main_v76, val_main_c_17, val_main_v79, val_main_v78, val_main_c_18]
  revert p
  decide

/-- This vector names the odd levels. -/
theorem names96 : Names (val_main_v96 (F := Ideal)) od := by
  intro p
  pointwise [val_main_v96, val_main_v95, val_main_v92, val_main_v54, val_main_v52, val_main_v51, val_main_c_9, val_main_v50, val_main_v49, val_main_c, val_main_v48, val_main_v53, val_main_c_10, val_main_v91, val_main_c_21, val_main_v94, val_main_v93, val_main_c_22]
  revert p
  decide

/-- This vector names the odd levels. -/
theorem names112 : Names (val_main_v112 (F := Ideal)) od := by
  intro p
  pointwise [val_main_v112, val_main_v111, val_main_v108, val_main_v54, val_main_v52, val_main_v51, val_main_c_9, val_main_v50, val_main_v49, val_main_c, val_main_v48, val_main_v53, val_main_c_10, val_main_v107, val_main_c_25, val_main_v110, val_main_v109, val_main_c_26]
  revert p
  decide

/-- This vector names the odd levels. -/
theorem names230 : Names (val_main_v230 (F := Ideal)) od := by
  intro p
  pointwise [val_main_v230, val_main_v229, val_main_v226, val_main_v54, val_main_v52, val_main_v51, val_main_c_9, val_main_v50, val_main_v49, val_main_c, val_main_v48, val_main_v53, val_main_c_10, val_main_v225, val_main_c_51, val_main_v228, val_main_v227, val_main_c_52]
  revert p
  decide

/-- This vector names the odd levels. -/
theorem names237 : Names (val_main_v237 (F := Ideal)) od := by
  intro p
  pointwise [val_main_v237, val_main_v236, val_main_v233, val_main_v54, val_main_v52, val_main_v51, val_main_c_9, val_main_v50, val_main_v49, val_main_c, val_main_v48, val_main_v53, val_main_c_10, val_main_v232, val_main_c_53, val_main_v235, val_main_v234, val_main_c_54]
  revert p
  decide

/-- This vector names the odd levels. -/
theorem names266 : Names (val_main_v266 (F := Ideal)) od := by
  intro p
  pointwise [val_main_v266, val_main_v265, val_main_v262, val_main_v54, val_main_v52, val_main_v51, val_main_c_9, val_main_v50, val_main_v49, val_main_c, val_main_v48, val_main_v53, val_main_c_10, val_main_v261, val_main_c_61, val_main_v264, val_main_v263, val_main_c_62]
  revert p
  decide

/-- This vector names the odd levels. -/
theorem names274 : Names (val_main_v274 (F := Ideal)) od := by
  intro p
  pointwise [val_main_v274, val_main_v273, val_main_v270, val_main_v54, val_main_v52, val_main_v51, val_main_c_9, val_main_v50, val_main_v49, val_main_c, val_main_v48, val_main_v53, val_main_c_10, val_main_v269, val_main_c_63, val_main_v272, val_main_v271, val_main_c_64]
  revert p
  decide

/-- This vector names the odd levels. -/
theorem names290 : Names (val_main_v290 (F := Ideal)) od := by
  intro p
  pointwise [val_main_v290, val_main_v289, val_main_v286, val_main_v54, val_main_v52, val_main_v51, val_main_c_9, val_main_v50, val_main_v49, val_main_c, val_main_v48, val_main_v53, val_main_c_10, val_main_v285, val_main_c_67, val_main_v288, val_main_v287, val_main_c_68]
  revert p
  decide

end Cert.Ref

end
-- ==== Proof.RefReads.lean ====
/-
  The reference's log-probabilities and raw gradients by level and chain: at each level's own temperature, and crossed, the
  features of one level of a pair at the temperature of the other.
-/
module

public import proofs.«01_k».proof.Proof.RefCross
public import proofs.«01_k».proof.Proof.Vectors

@[expose] public section

set_option maxRecDepth 16384

noncomputable section

namespace Cert.Ref

open Cert.ReferenceIdeal Cert.ReferenceIdeal.Gen Cert.ReferenceIdeal.Read Cert.Swap Idealize.ShloMosaic

variable (x0 : Vec Ideal S16x1024x512 .f32) (x1 : Vec Ideal S16x1024x1 .f32)
  (x3 : Vec Ideal S512x2048 .f32) (x4 x5 : Vec Ideal S2048 .f32)

/-- The features of a level's chain. -/
abbrev featR (a : Fin 16) (n : Fin 1024) (d : Fin 512) : EReal := x0 (ix3 a n d)
/-- The time of a level's chain. -/
abbrev whenR (a : Fin 16) (n : Fin 1024) : EReal := x1 (ix3 a n 0)

/-- The row of a level's chain in the first pass. -/
def flat16 (a : Fin 16) (n : Fin 1024) : Fin 16384 := ⟨a.val * 1024 + n.val, by omega⟩
/-- The row of a pair's chain in a crossed pass. -/
def flat8 (p : Fin 8) (n : Fin 1024) : Fin 8192 := ⟨p.val * 1024 + n.val, by omega⟩

/-- A row of the first pass is a level's chain. -/
theorem rowA_flat (a : Fin 16) (n : Fin 1024) : rowA x0 (flat16 a n) = featR x0 a n := by
  funext d
  unfold rowA flat16
  pointwise [val_main_v0]

/-- A time of the first pass is a level's chain's. -/
theorem timeA_flat (a : Fin 16) (n : Fin 1024) : timeA x1 (flat16 a n) = whenR x1 a n := by
  unfold timeA flat16
  pointwise [val_main_v2, val_main_v1]

/-- The log-probability of a level's chain at its own temperature. -/
theorem v46_at (h4 : ∀ h, x4 (ix1 h) = 0) (a : Fin 16) (n : Fin 1024) :
    val_main_v46 (F := Ideal) x0 x1 x3 x4 x5 (ix2 a n) = lp (featR x0 a n) (matR x3) (vecR x5) (temp (whenR x1 a n)) := by
  rw [← rowA_flat, ← timeA_flat, ← lpA x0 x1 x3 x4 x5 h4]
  unfold flat16
  pointwise [val_main_v46]

/-- The raw gradient of a level's chain at its own temperature. -/
theorem v47_at (h4 : ∀ h, x4 (ix1 h) = 0) (a : Fin 16) (n : Fin 1024) (d : Fin 512) :
    val_main_v47 (F := Ideal) x0 x1 x3 x4 x5 (ix3 a n d) = rgrad (featR x0 a n) (matR x3) (vecR x5) (temp (whenR x1 a n)) d := by
  rw [← rowA_flat, ← timeA_flat, ← gradA x0 x1 x3 x4 x5 h4]
  unfold flat16
  pointwise [val_main_v47]

/-- A row of the first crossed pass is the features of the pair's odd level. -/
theorem rowB_flat (p : Fin 8) (n : Fin 1024) : rowB x0 (flat8 p n) = featR x0 (od p) n := by
  funext d
  refine Eq.trans ?_ (gatherG3 x0 (val_main_v112 (F := Ideal)) od names112 p n d)
  unfold rowB flat8
  pointwise [val_main_v114, val_main_v113]

/-- A time of the first crossed pass is that of the pair's even level. -/
theorem timeB_flat (p : Fin 8) (n : Fin 1024) : timeB x1 (flat8 p n) = whenR x1 (ev p) n := by
  refine Eq.trans ?_ (gatherG1 x1 (val_main_v88 (F := Ideal)) ev names88 p n 0)
  unfold timeB flat8
  pointwise [val_main_v115, val_main_v90, val_main_v89]

/-- A row of the second crossed pass is the features of the pair's even level. -/
theorem rowC_flat (p : Fin 8) (n : Fin 1024) : rowC x0 (flat8 p n) = featR x0 (ev p) n := by
  funext d
  refine Eq.trans ?_ (gatherG3 x0 (val_main_v104 (F := Ideal)) ev names104 p n d)
  unfold rowC flat8
  pointwise [val_main_v106, val_main_v105]

/-- A time of the second crossed pass is that of the pair's odd level. -/
theorem timeC_flat (p : Fin 8) (n : Fin 1024) : timeC x1 (flat8 p n) = whenR x1 (od p) n := by
  refine Eq.trans ?_ (gatherG1 x1 (val_main_v96 (F := Ideal)) od names96 p n 0)
  unfold timeC flat8
  pointwise [val_main_v159, val_main_v98, val_main_v97]

/-- The log-probability of the odd level's features at the even level's temperature. -/
theorem v203_at (h4 : ∀ h, x4 (ix1 h) = 0) (p : Fin 8) (n : Fin 1024) :
    val_main_v203 (F := Ideal) x0 x1 x3 x4 x5 (ix2 p n)
      = lp (featR x0 (od p) n) (matR x3) (vecR x5) (temp (whenR x1 (ev p) n)) := by
  rw [← rowB_flat, ← timeB_flat, ← lpB x0 x1 x3 x4 x5 h4]
  unfold flat8
  pointwise [val_main_v203]

/-- The raw gradient of the odd level's features at the even level's temperature. -/
theorem v204_at (h4 : ∀ h, x4 (ix1 h) = 0) (p : Fin 8) (n : Fin 1024) (d : Fin 512) :
    val_main_v204 (F := Ideal) x0 x1 x3 x4 x5 (ix3 p n d)
      = rgrad (featR x0 (od p) n) (matR x3) (vecR x5) (temp (whenR x1 (ev p) n)) d := by
  rw [← rowB_flat, ← timeB_flat, ← gradB x0 x1 x3 x4 x5 h4]
  unfold flat8
  pointwise [val_main_v204]

/-- The log-probability of the even level's features at the odd level's temperature. -/
theorem v205_at (h4 : ∀ h, x4 (ix1 h) = 0) (p : Fin 8) (n : Fin 1024) :
    val_main_v205 (F := Ideal) x0 x1 x3 x4 x5 (ix2 p n)
      = lp (featR x0 (ev p) n) (matR x3) (vecR x5) (temp (whenR x1 (od p) n)) := by
  rw [← rowC_flat, ← timeC_flat, ← lpC x0 x1 x3 x4 x5 h4]
  unfold flat8
  pointwise [val_main_v205]

/-- The raw gradient of the even level's features at the odd level's temperature. -/
theorem v206_at (h4 : ∀ h, x4 (ix1 h) = 0) (p : Fin 8) (n : Fin 1024) (d : Fin 512) :
    val_main_v206 (F := Ideal) x0 x1 x3 x4 x5 (ix3 p n d)
      = rgrad (featR x0 (ev p) n) (matR x3) (vecR x5) (temp (whenR x1 (od p) n)) d := by
  rw [← rowC_flat, ← timeC_flat, ← gradC x0 x1 x3 x4 x5 h4]
  unfold flat8
  pointwise [val_main_v206]

/-- The picked log-probabilities of the even levels. -/
theorem v61_at (h4 : ∀ h, x4 (ix1 h) = 0) (p : Fin 8) (n : Fin 1024) :
    val_main_v61 (F := Ideal) x0 x1 x3 x4 x5 (ix2 p n)
      = lp (featR x0 (ev p) n) (matR x3) (vecR x5) (temp (whenR x1 (ev p) n)) :=
  (gatherG2 (val_main_v46 (F := Ideal) x0 x1 x3 x4 x5) (val_main_v60 (F := Ideal)) ev names60 p n).trans
    (v46_at x0 x1 x3 x4 x5 h4 (ev p) n)

/-- The picked log-probabilities of the odd levels. -/
theorem v68_at (h4 : ∀ h, x4 (ix1 h) = 0) (p : Fin 8) (n : Fin 1024) :
    val_main_v68 (F := Ideal) x0 x1 x3 x4 x5 (ix2 p n)
      = lp (featR x0 (od p) n) (matR x3) (vecR x5) (temp (whenR x1 (od p) n)) :=
  (gatherG2 (val_main_v46 (F := Ideal) x0 x1 x3 x4 x5) (val_main_v67 (F := Ideal)) od names67 p n).trans
    (v46_at x0 x1 x3 x4 x5 h4 (od p) n)

/-- The picked raw gradients of the even levels. -/
theorem v75_at (h4 : ∀ h, x4 (ix1 h) = 0) (p : Fin 8) (n : Fin 1024) (d : Fin 512) :
    val_main_v75 (F := Ideal) x0 x1 x3 x4 x5 (ix3 p n d)
      = rgrad (featR x0 (ev p) n) (matR x3) (vecR x5) (temp (whenR x1 (ev p) n)) d :=
  (gatherG3 (val_main_v47 (F := Ideal) x0 x1 x3 x4 x5) (val_main_v74 (F := Ideal)) ev names74 p n d).trans
    (v47_at x0 x1 x3 x4 x5 h4 (ev p) n d)

/-- The picked raw gradients of the odd levels. -/
theorem v82_at (h4 : ∀ h, x4 (ix1 h) = 0) (p : Fin 8) (n : Fin 1024) (d : Fin 512) :
    val_main_v82 (F := Ideal) x0 x1 x3 x4 x5 (ix3 p n d)
      = rgrad (featR x0 (od p) n) (matR x3) (vecR x5) (temp (whenR x1 (od p) n)) d :=
  (gatherG3 (val_main_v47 (F := Ideal) x0 x1 x3 x4 x5) (val_main_v81 (F := Ideal)) od names81 p n d).trans
    (v47_at x0 x1 x3 x4 x5 h4 (od p) n d)

/-- The picked features of the odd levels. -/
theorem v238_at (p : Fin 8) (n : Fin 1024) (d : Fin 512) :
    val_main_v238 (F := Ideal) x0 (ix3 p n d) = featR x0 (od p) n d :=
  gatherG3 x0 (val_main_v237 (F := Ideal)) od names237 p n d

/-- The picked features of the even levels. -/
theorem v245_at (p : Fin 8) (n : Fin 1024) (d : Fin 512) :
    val_main_v245 (F := Ideal) x0 (ix3 p n d) = featR x0 (ev p) n d :=
  gatherG3 x0 (val_main_v244 (F := Ideal)) ev names244 p n d

/-- The picked features of the even levels. -/
theorem v260_at (p : Fin 8) (n : Fin 1024) (d : Fin 512) :
    val_main_v260 (F := Ideal) x0 (ix3 p n d) = featR x0 (ev p) n d :=
  gatherG3 x0 (val_main_v259 (F := Ideal)) ev names259 p n d

/-- The picked features of the odd levels. -/
theorem v267_at (p : Fin 8) (n : Fin 1024) (d : Fin 512) :
    val_main_v267 (F := Ideal) x0 (ix3 p n d) = featR x0 (od p) n d :=
  gatherG3 x0 (val_main_v266 (F := Ideal)) od names266 p n d

end Cert.Ref

end
-- ==== Proof.RefResults.lean ====
/-
  The reference's four results, by pair, level and chain.
-/
module

public import proofs.«01_k».proof.Proof.RefReads

@[expose] public section

set_option maxRecDepth 16384

noncomputable section

namespace Cert.Ref

open Cert.ReferenceIdeal Cert.ReferenceIdeal.Gen Cert.ReferenceIdeal.Read Cert.Swap Idealize.ShloMosaic

variable (x0 : Vec Ideal S16x1024x512 .f32) (x1 : Vec Ideal S16x1024x1 .f32) (x2 : Vec Ideal S8x1024 .f32)
  (x3 : Vec Ideal S512x2048 .f32) (x4 x5 : Vec Ideal S2048 .f32)

/-- The draw of a pair's chain. -/
abbrev drawR (p : Fin 8) (n : Fin 1024) : EReal := x2 (ix2 p n)

/-- A pair's chain accepts its swap, over the reference's arguments. -/
abbrev AccR (p : Fin 8) (n : Fin 1024) : Prop :=
  Accept (featR x0) (whenR x1) (drawR x2) (matR x3) (vecR x5) p n

/-- No odd level is an even level. -/
theorem od_ne_ev (p q : Fin 8) : od p ≠ ev q := by revert p q; decide

/-- A decided bit as a number. -/
theorem num_decide (p : Prop) [Decidable p] :
    FloatOps.uitofp (F := Ideal) FTy.f32 (BitVec.ofBool (decide p)) = if p then 1 else 0 := by
  show ((((BitVec.ofBool (decide p)).toNat : ℝ)) : EReal) = _
  by_cases h : p <;> simp [h]

variable (h4 : ∀ h, x4 (ix1 h) = 0)
include h4

/-- The accept mask. -/
theorem mask_at (p : Fin 8) (n : Fin 1024) :
    val_main_v211 (F := Ideal) x0 x1 x2 x3 x4 x5 (ix2 p n) = BitVec.ofBool (decide (AccR x0 x1 x2 x3 x5 p n)) := by
  pointwise [val_main_v211, val_main_v210, val_main_v209, val_main_v208, val_main_v207]
  rw [v203_at x0 x1 x3 x4 x5 h4, v205_at x0 x1 x3 x4 x5 h4, v61_at x0 x1 x3 x4 x5 h4, v68_at x0 x1 x3 x4 x5 h4]
  rfl

/-- The share of accepted swaps. -/
theorem v214_at : val_main_v214 (F := Ideal) x0 x1 x2 x3 x4 x5 ix0
    = rate (featR x0) (whenR x1) (drawR x2) (matR x3) (vecR x5) := by
  pointwise [val_main_v214, val_main_v213, val_main_v212, val_main_cst_47, val_main_cst_48]
  simp only [mask_at x0 x1 x2 x3 x4 x5 h4, num_decide]
  rfl

/-- The log-probability put back at the even level. -/
theorem v216_at (p : Fin 8) (n : Fin 1024) : val_main_v216 (F := Ideal) x0 x1 x2 x3 x4 x5 (ix2 p n)
    = newLp (featR x0) (whenR x1) (drawR x2) (matR x3) (vecR x5) p 0 n := by
  pointwise [val_main_v216]
  rw [mask_at x0 x1 x2 x3 x4 x5 h4, select_decide, v203_at x0 x1 x3 x4 x5 h4, v61_at x0 x1 x3 x4 x5 h4]
  rfl

/-- The log-probability put back at the odd level. -/
theorem v224_at (p : Fin 8) (n : Fin 1024) : val_main_v224 (F := Ideal) x0 x1 x2 x3 x4 x5 (ix2 p n)
    = newLp (featR x0) (whenR x1) (drawR x2) (matR x3) (vecR x5) p 1 n := by
  pointwise [val_main_v224]
  rw [mask_at x0 x1 x2 x3 x4 x5 h4, select_decide, v205_at x0 x1 x3 x4 x5 h4, v68_at x0 x1 x3 x4 x5 h4]
  rfl

/-- The features put back at the even level. -/
theorem v246_at (p : Fin 8) (n : Fin 1024) (d : Fin 512) : val_main_v246 (F := Ideal) x0 x1 x2 x3 x4 x5 (ix3 p n d)
    = newX (featR x0) (whenR x1) (drawR x2) (matR x3) (vecR x5) p 0 n d := by
  pointwise [val_main_v246, val_main_call5_v0, val_main_v215]
  rw [mask_at x0 x1 x2 x3 x4 x5 h4, select_decide, v238_at x0, v245_at x0]
  rfl

/-- The features put back at the odd level. -/
theorem v268_at (p : Fin 8) (n : Fin 1024) (d : Fin 512) : val_main_v268 (F := Ideal) x0 x1 x2 x3 x4 x5 (ix3 p n d)
    = newX (featR x0) (whenR x1) (drawR x2) (matR x3) (vecR x5) p 1 n d := by
  pointwise [val_main_v268, val_main_call6_v0, val_main_v215]
  rw [mask_at x0 x1 x2 x3 x4 x5 h4, select_decide, v260_at x0, v267_at x0]
  rfl

/-- The raw gradient put back at the even level. -/
theorem v276_at (p : Fin 8) (n : Fin 1024) (d : Fin 512) : val_main_v276 (F := Ideal) x0 x1 x2 x3 x4 x5 (ix3 p n d)
    = newRgrad (featR x0) (whenR x1) (drawR x2) (matR x3) (vecR x5) p 0 n d := by
  pointwise [val_main_v276, val_main_call7_v0, val_main_v215]
  rw [mask_at x0 x1 x2 x3 x4 x5 h4, select_decide, v204_at x0 x1 x3 x4 x5 h4, v75_at x0 x1 x3 x4 x5 h4]
  rfl

/-- The raw gradient put back at the odd level. -/
theorem v284_at (p : Fin 8) (n : Fin 1024) (d : Fin 512) : val_main_v284 (F := Ideal) x0 x1 x2 x3 x4 x5 (ix3 p n d)
    = newRgrad (featR x0) (whenR x1) (drawR x2) (matR x3) (vecR x5) p 1 n d := by
  pointwise [val_main_v284, val_main_call8_v0, val_main_v215]
  rw [mask_at x0 x1 x2 x3 x4 x5 h4, select_decide, v206_at x0 x1 x3 x4 x5 h4, v82_at x0 x1 x3 x4 x5 h4]
  rfl

/-- The features after the move. -/
theorem v275_at (p : Fin 8) (l : Fin 2) (n : Fin 1024) (d : Fin 512) : val_main_v275 (F := Ideal) x0 x1 x2 x3 x4 x5 (ix3 (lvl p l) n d)
    = newX (featR x0) (whenR x1) (drawR x2) (matR x3) (vecR x5) p l n d := by
  unfold val_main_v275
  match l with
  | ⟨0, _⟩ =>
    refine (scatterP3_miss _ (val_main_v274 (F := Ideal)) _ od names274 (ev p) (fun q => od_ne_ev q p) n d).trans ?_
    unfold val_main_v253
    exact (scatterP3_hit _ (val_main_v252 (F := Ideal)) _ ev names252 ev_inj p n d).trans (v246_at x0 x1 x2 x3 x4 x5 h4 p n d)
  | ⟨1, _⟩ =>
    exact (scatterP3_hit _ (val_main_v274 (F := Ideal)) _ od names274 od_inj p n d).trans (v268_at x0 x1 x2 x3 x4 x5 h4 p n d)

/-- The log-probabilities after the move. -/
theorem v231_at (p : Fin 8) (l : Fin 2) (n : Fin 1024) : val_main_v231 (F := Ideal) x0 x1 x2 x3 x4 x5 (ix2 (lvl p l) n)
    = newLp (featR x0) (whenR x1) (drawR x2) (matR x3) (vecR x5) p l n := by
  unfold val_main_v231
  match l with
  | ⟨0, _⟩ =>
    refine (scatterP2_miss _ (val_main_v230 (F := Ideal)) _ od names230 (ev p) (fun q => od_ne_ev q p) n).trans ?_
    unfold val_main_v223
    exact (scatterP2_hit _ (val_main_v222 (F := Ideal)) _ ev names222 ev_inj p n).trans (v216_at x0 x1 x2 x3 x4 x5 h4 p n)
  | ⟨1, _⟩ =>
    exact (scatterP2_hit _ (val_main_v230 (F := Ideal)) _ od names230 od_inj p n).trans (v224_at x0 x1 x2 x3 x4 x5 h4 p n)

/-- The raw gradients after the move. -/
theorem v291_at (p : Fin 8) (l : Fin 2) (n : Fin 1024) (d : Fin 512) : val_main_v291 (F := Ideal) x0 x1 x2 x3 x4 x5 (ix3 (lvl p l) n d)
    = newRgrad (featR x0) (whenR x1) (drawR x2) (matR x3) (vecR x5) p l n d := by
  unfold val_main_v291
  match l with
  | ⟨0, _⟩ =>
    refine (scatterP3_miss _ (val_main_v290 (F := Ideal)) _ od names290 (ev p) (fun q => od_ne_ev q p) n d).trans ?_
    unfold val_main_v283
    exact (scatterP3_hit _ (val_main_v282 (F := Ideal)) _ ev names282 ev_inj p n d).trans (v276_at x0 x1 x2 x3 x4 x5 h4 p n d)
  | ⟨1, _⟩ =>
    exact (scatterP3_hit _ (val_main_v290 (F := Ideal)) _ od names290 od_inj p n d).trans (v284_at x0 x1 x2 x3 x4 x5 h4 p n d)

end Cert.Ref

end
-- ==== Proof.Precondition.lean ====
/-
  What the precondition says of the arguments: the bias of the hidden layer is zero, the weights are real numbers, and no
  temperature is zero.
-/
module

public import proofs.«01_k».proof.Pre_unbiased_and_finite
public import proofs.«01_k».proof.Proof.Gradient
public import Idealize.ShloMosaic.Lib.Pointwise

@[expose] public section

set_option maxRecDepth 16384

noncomputable section

namespace Cert.Pre_unbiased_and_finite

open Idealize.ShloMosaic Cert.Swap

/-- The side conditions of the precondition's operations. -/
instance facts : Facts where
  bcast_S_S2048 := by decide
  bcast_S_S512x2048 := by decide
  bcast_S_S16x1024x1 := by decide

/-- A decided bit that is set. -/
theorem of_bit {p : Prop} [Decidable p] (h : BitVec.ofBool (decide p) = 1#1) : p := by
  by_contra hp
  rw [decide_eq_false hp] at h
  exact absurd h (by decide)

/-- The greatest single-precision word is the top of the extended reals. -/
theorem ofBits_top : Ideal.ofBits .f32 0x7F800000#32 = ⊤ := by
  simp [Ideal.ofBits, Ideal.ieee]

/-- An extended real of finite magnitude is a real number. -/
theorem real_of_abs (v : EReal) (h : max v (-v) < ⊤) : ∃ a : ℝ, v = a := by
  induction v with
  | bot => simp at h
  | top => simp at h
  | coe a => exact ⟨a, rfl⟩

variable (x0 : Vec Ideal S16x1024x512 .f32) (x1 : Vec Ideal S16x1024x1 .f32) (x2 : Vec Ideal S8x1024 .f32)
  (x3 : Vec Ideal S512x2048 .f32) (x4 x5 : Vec Ideal S2048 .f32)

/-- The bias is zero. -/
theorem bias_zero (h : (fn (F := Ideal) x0 x1 x2 x3 x4 x5).1 = fun _ => 1#1) (k : Fin 2048) : x4 (ix1 k) = 0 := by
  have e : BitVec.ofBool (decide (x4 (ix1 k) = Ideal.ofBits .f32 0x00000000#32)) = 1#1 := congrFun h (ix1 k)
  rw [of_bit e, Ideal.ofBits_zero_f32]

/-- The first weights are real. -/
theorem first_real (h : (fn (F := Ideal) x0 x1 x2 x3 x4 x5).2.1 = fun _ => 1#1) (d : Fin 512) (k : Fin 2048) :
    ∃ a : ℝ, x3 (ix2 d k) = a := by
  have e : BitVec.ofBool (decide (max (x3 (ix2 d k)) (-(x3 (ix2 d k))) < Ideal.ofBits .f32 0x7F800000#32)) = 1#1 :=
    congrFun h (ix2 d k)
  have l := of_bit e
  rw [ofBits_top] at l
  exact real_of_abs _ l

/-- The second weights are real. -/
theorem second_real (h : (fn (F := Ideal) x0 x1 x2 x3 x4 x5).2.2.1 = fun _ => 1#1) (k : Fin 2048) :
    ∃ a : ℝ, x5 (ix1 k) = a := by
  have e : BitVec.ofBool (decide (max (x5 (ix1 k)) (-(x5 (ix1 k))) < Ideal.ofBits .f32 0x7F800000#32)) = 1#1 :=
    congrFun h (ix1 k)
  have l := of_bit e
  rw [ofBits_top] at l
  exact real_of_abs _ l

/-- No temperature is zero. -/
theorem temp_ne (h : (fn (F := Ideal) x0 x1 x2 x3 x4 x5).2.2.2 = fun _ => 1#1) (a : Fin 16) (n : Fin 1024) :
    temp (x1 (ix3 a n 0)) ≠ 0 := by
  have e : BitVec.ofBool (decide (temp (x1 (ix3 a n 0)) ≠ Ideal.ofBits .f32 0x00000000#32)) = 1#1 := congrFun h (ix3 a n 0)
  have l := of_bit e
  rwa [Ideal.ofBits_zero_f32] at l

end Cert.Pre_unbiased_and_finite

end
-- ==== Proof.Agree.lean ====
/-
  The reference's four results are the kernel's, under the precondition and from equal arguments.
-/
module

public import proofs.«01_k».proof.Proof.KernelRun
public import proofs.«01_k».proof.Proof.RefResults
public import proofs.«01_k».proof.Defs
public import proofs.«01_k».proof.Proof.Precondition

@[expose] public section

set_option maxRecDepth 16384

noncomputable section

namespace Cert.Agree

open Cert.KernelIdeal Cert.Swap Cert.Ref Cert.Block Cert.ReferenceIdeal.Read Idealize.ShloMosaic Idealize.ShloMosaic.TcCoe

/-- A level is the place it takes in its pair. -/
theorem lvl_of (a : Fin 16) : lvl (pairOf a) (placeOf a) = a := by revert a; decide

variable (m : (ℓ : Loc nD τ sig) → Buf (Elt Ideal) ℓ) (c : Dev nD)

/-- The features the kernel is given. -/
abbrev a0 : Vec Ideal S16x1024x512 .f32 := m ((c : Thread nD τ).loc main_arg0)
/-- The times the kernel is given. -/
abbrev a1 : Vec Ideal S16x1024x1 .f32 := m ((c : Thread nD τ).loc main_arg1)
/-- The uniform draws the kernel is given. -/
abbrev a2 : Vec Ideal S8x1024 .f32 := m ((c : Thread nD τ).loc main_arg2)
/-- The first weights the kernel is given. -/
abbrev a3 : Vec Ideal S512x2048 .f32 := m ((c : Thread nD τ).loc main_arg3)
/-- The bias the kernel is given. -/
abbrev a4 : Vec Ideal S2048 .f32 := m ((c : Thread nD τ).loc main_arg4)
/-- The second weights the kernel is given. -/
abbrev a5 : Vec Ideal S2048 .f32 := m ((c : Thread nD τ).loc main_arg5)

variable (hpre : Cert.Pre_KernelIdeal_unbiased_and_finite m)
include hpre

/-- The bias the kernel is given is zero. -/
theorem bias (h : Fin 2048) : a4 m c (ix1 h) = 0 := Cert.Pre_unbiased_and_finite.bias_zero _ _ _ _ _ _ (hpre c).1 h

/-- The reference's features over the kernel's arguments are the kernel's. -/
theorem featuresAgree : val_main_v275 (F := Ideal) (a0 m c) (a1 m c) (a2 m c) (a3 m c) (a4 m c) (a5 m c) = resX m c := by
  funext k
  idx_vars k
  have h := v275_at (a0 m c) (a1 m c) (a2 m c) (a3 m c) (a4 m c) (a5 m c) (bias m c hpre) (pairOf k0) (placeOf k0) k1 k2
  rw [lvl_of] at h
  exact h

/-- The reference's log-probabilities over the kernel's arguments are the kernel's. -/
theorem logsAgree : val_main_v231 (F := Ideal) (a0 m c) (a1 m c) (a2 m c) (a3 m c) (a4 m c) (a5 m c) = resLp m c := by
  funext k
  idx_vars k
  have h := v231_at (a0 m c) (a1 m c) (a2 m c) (a3 m c) (a4 m c) (a5 m c) (bias m c hpre) (pairOf k0) (placeOf k0) k1
  rw [lvl_of] at h
  exact h

/-- The reference's gradients over the kernel's arguments are the kernel's. -/
theorem gradientsAgree : val_main_v291 (F := Ideal) (a0 m c) (a1 m c) (a2 m c) (a3 m c) (a4 m c) (a5 m c) = resGrad m c := by
  funext k
  idx_vars k
  have h := v291_at (a0 m c) (a1 m c) (a2 m c) (a3 m c) (a4 m c) (a5 m c) (bias m c hpre) (pairOf k0) (placeOf k0) k1 k2
  rw [lvl_of, newGrad_eq_newRgrad _ _ _ _ _ (Cert.Pre_unbiased_and_finite.first_real _ _ _ _ _ _ (hpre c).2.1)
    (Cert.Pre_unbiased_and_finite.second_real _ _ _ _ _ _ (hpre c).2.2.1)
    (Cert.Pre_unbiased_and_finite.temp_ne _ _ _ _ _ _ (hpre c).2.2.2)] at h
  exact h

/-- The reference's share of accepted swaps over the kernel's arguments is the kernel's. -/
theorem ratesAgree : val_main_v214 (F := Ideal) (a0 m c) (a1 m c) (a2 m c) (a3 m c) (a4 m c) (a5 m c) = resRate m c := by
  funext k
  rw [show k = ix0 from funext fun a => a.elim0]
  exact v214_at (a0 m c) (a1 m c) (a2 m c) (a3 m c) (a4 m c) (a5 m c) (bias m c hpre)

end Cert.Agree

end
-- ==== Proof.lean ====
/-
  The proof of `Cert.Claim`: the frames of the three programs, the idealization, and the equality of all four results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init
public import proofs.«01_k».proof.Proof.Agree
public import Idealize.ShloMosaic.Lib.Claim
public import Idealize.ShloMosaic.Lib.Quiescent

@[expose] public section

noncomputable section

namespace Cert.Proof

open Idealize.ShloMosaic Idealize.SL.Sem

/-- The kernel program ends, leaves its arguments as they were and every counter at zero. -/
theorem frameKernel : Cert.quiescent_Kernel (hKernel := Cert.Kernel.Gen.facts) :=
  fun m g _ => Cert.Kernel.Gen.frame m g

/-- The idealized kernel program ends, leaves its arguments as they were and every counter at zero. -/
theorem frameIdeal : Cert.quiescent_KernelIdeal (hKernelIdeal := Cert.KernelIdeal.Gen.facts) :=
  fun m g _ => Cert.KernelIdeal.Gen.frame m g

/-- The reference program ends, leaves its arguments as they were and every counter at zero. -/
theorem frameReference : Cert.quiescent_ReferenceIdeal (hReferenceIdeal := Cert.ReferenceIdeal.Gen.facts) := fun m g _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m g)

/-- The idealized kernel and the reference end with the same four results, from equal arguments under the precondition. -/
theorem sameResults : Cert.algebraic_KernelIdeal_ReferenceIdeal_pre_unbiased_and_finite
    (hKernelIdeal := Cert.KernelIdeal.Gen.facts) (hReferenceIdeal := Cert.ReferenceIdeal.Gen.facts)
    (hPre_unbiased_and_finite := Cert.Pre_unbiased_and_finite.facts) := by
  intro m g m' g' hpre hagree
  refine ⟨Cert.Block.resX m, Cert.Block.resLp m, Cert.Block.resGrad m, Cert.Block.resRate m, ?_, ?_⟩
  · refine (θ_run Cert.KernelIdeal.defs _ _).mono (fun r h c => ?_)
      (θ_run_and (Cert.Block.kernel_run m g) (Cert.KernelIdeal.Gen.unchanged m g))
    exact ⟨(h.1 c).1, (h.1 c).2.1, (h.1 c).2.2.1, (h.1 c).2.2.2, h.2 c⟩
  · refine (θ_run Cert.ReferenceIdeal.defs _ _).mono (fun r h c => ?_) (Cert.ReferenceIdeal.Value.run (F := Ideal) m' g')
    obtain ⟨h275, h231, h291, h214, hargs⟩ := h c
    have e0 : StableHlo.launchContents m' c (Proc.devRef .tc Cert.ReferenceIdeal.main_arg0) = Cert.Agree.a0 m c :=
      (hagree c).1
    have e1 : StableHlo.launchContents m' c (Proc.devRef .tc Cert.ReferenceIdeal.main_arg1) = Cert.Agree.a1 m c :=
      (hagree c).2.1
    have e2 : StableHlo.launchContents m' c (Proc.devRef .tc Cert.ReferenceIdeal.main_arg2) = Cert.Agree.a2 m c :=
      (hagree c).2.2.1
    have e3 : StableHlo.launchContents m' c (Proc.devRef .tc Cert.ReferenceIdeal.main_arg3) = Cert.Agree.a3 m c :=
      (hagree c).2.2.2.1
    have e4 : StableHlo.launchContents m' c (Proc.devRef .tc Cert.ReferenceIdeal.main_arg4) = Cert.Agree.a4 m c :=
      (hagree c).2.2.2.2.1
    have e5 : StableHlo.launchContents m' c (Proc.devRef .tc Cert.ReferenceIdeal.main_arg5) = Cert.Agree.a5 m c :=
      (hagree c).2.2.2.2.2
    refine ⟨h275.trans ((Cert.ReferenceIdeal.Read.val_main_v275_eq (StableHlo.launchContents m' c)).trans ?_),
      h231.trans ((Cert.ReferenceIdeal.Read.val_main_v231_eq (StableHlo.launchContents m' c)).trans ?_),
      h291.trans ((Cert.ReferenceIdeal.Read.val_main_v291_eq (StableHlo.launchContents m' c)).trans ?_),
      h214.trans ((Cert.ReferenceIdeal.Read.val_main_v214_eq (StableHlo.launchContents m' c)).trans ?_), hargs⟩
    · rw [e0, e1, e2, e3, e4, e5]
      exact Cert.Agree.featuresAgree m c hpre
    · rw [e0, e1, e2, e3, e4, e5]
      exact Cert.Agree.logsAgree m c hpre
    · rw [e0, e1, e2, e3, e4, e5]
      exact Cert.Agree.gradientsAgree m c hpre
    · rw [e0, e1, e2, e3, e4, e5]
      exact Cert.Agree.ratesAgree m c hpre

/-- Everything the certificate claims. -/
theorem claim : Cert.Claim :=
  ⟨Cert.Kernel.Gen.facts, Cert.KernelIdeal.Gen.facts, Cert.ReferenceIdeal.Gen.facts, Cert.Pre_unbiased_and_finite.facts,
    frameKernel, frameIdeal, fun m g _ => Cert.KernelIdeal.Gen.frame m g, frameReference,
    fun m g _ => frameReference m g trivial, trivial, sameResults⟩

end Cert.Proof

end
